-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_inf_and_overlapping [hPre_below_inf_and_overlapping : Cert.Pre_below_inf_and_overlapping.Facts] (m : (ℓ : Loc Cert.KernelIdeal.nD Cert.KernelIdeal.τ Cert.KernelIdeal.sig) → Buf (Elt Ideal) ℓ) : Prop :=
  ∀ c : Dev Cert.KernelIdeal.nD,
    (Cert.Pre_below_inf_and_overlapping.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_inf_and_overlapping [hPre_below_inf_and_overlapping : Cert.Pre_below_inf_and_overlapping.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_inf_and_overlapping.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_below_inf_and_overlapping [hKernelIdeal : Cert.KernelIdeal.Facts] [hPre_below_inf_and_overlapping : Cert.Pre_below_inf_and_overlapping.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_inf_and_overlapping m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_below_inf_and_overlapping [hReferenceIdeal : Cert.ReferenceIdeal.Facts] [hPre_below_inf_and_overlapping : Cert.Pre_below_inf_and_overlapping.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_inf_and_overlapping m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_below_inf_and_overlapping [hKernelIdeal : Cert.KernelIdeal.Facts] [hReferenceIdeal : Cert.ReferenceIdeal.Facts] [hPre_below_inf_and_overlapping : Cert.Pre_below_inf_and_overlapping.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_inf_and_overlapping m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_below_inf_and_overlapping : Cert.Pre_below_inf_and_overlapping.Facts),
    quiescent_Kernel (hKernel := hKernel)
    ∧ quiescent_KernelIdeal (hKernelIdeal := hKernelIdeal)
    ∧ quiescent_KernelIdeal_pre_below_inf_and_overlapping (hKernelIdeal := hKernelIdeal) (hPre_below_inf_and_overlapping := hPre_below_inf_and_overlapping)
    ∧ quiescent_ReferenceIdeal (hReferenceIdeal := hReferenceIdeal)
    ∧ quiescent_ReferenceIdeal_pre_below_inf_and_overlapping (hReferenceIdeal := hReferenceIdeal) (hPre_below_inf_and_overlapping := hPre_below_inf_and_overlapping)
    ∧ preserves_Kernel_KernelIdeal
    ∧ algebraic_KernelIdeal_ReferenceIdeal_pre_below_inf_and_overlapping (hKernelIdeal := hKernelIdeal) (hReferenceIdeal := hReferenceIdeal) (hPre_below_inf_and_overlapping := hPre_below_inf_and_overlapping)
-- ==== Pre_below_inf_and_overlapping.lean ====
abbrev S8x32x32x256 : Shape := ⟨4, ![8, 32, 32, 256]⟩
abbrev S8x128x4 : Shape := ⟨3, ![8, 128, 4]⟩
abbrev S8x128x2 : Shape := ⟨3, ![8, 128, 2]⟩
abbrev S_ : Shape := ⟨0, ![]⟩

class Facts : Prop where
  slices_S8x128x4_S8x128x2_0_0_0 : S8x128x4.Slices ![0, 0, 0] S8x128x2
  bcast_S_S8x128x2 : S_.BroadcastsInDim S8x128x2 (![] : Fin 0 → Fin S8x128x2.rank)
  reducesTo_S8x128x2_S_d0_1_2 : S8x128x2.ReducesTo [0, 1, 2] S_
  h_S_ : 0 < S_.numel
  slices_S8x128x4_S8x128x2_0_0_2 : S8x128x4.Slices ![0, 0, 2] S8x128x2
  bcast_S_S8x32x32x256 : S_.BroadcastsInDim S8x32x32x256 (![] : Fin 0 → Fin S8x32x32x256.rank)

variable [Facts]

def fn {F : FTy → Type} [FloatOps F] (main_arg0 : FVec F S8x32x32x256 .f32) (main_arg1 : FVec F S8x128x4 .f32) : IVec S8x32x32x256 1 :=
  let main_v0 : FVec F S8x128x2 .f32 := (extractStridedSlice S8x128x2 ![0, 0, 0] · slices_S8x128x4_S8x128x2_0_0_0) main_arg1
  let main_cst : FVec F S_ .f32 := constant S_ .f32 0x41F80000#32
  let main_v1 : FVec F S8x128x2 .f32 := broadcastInDim S8x128x2 ![] bcast_S_S8x128x2 main_cst
  let main_v2 : IVec S8x128x2 1 := cmpf .ole main_v0 main_v1
  let main_c : IVec S_ 1 := constantI S_ 1 1#1
  let main_v3 : IVec S_ 1 := (fun x v => Host.reduce IntOp.andi x v reducesTo_S8x128x2_S_d0_1_2 h_S_) main_v2 main_c
  let main_v4 : FVec F S8x128x2 .f32 := (extractStridedSlice S8x128x2 ![0, 0, 2] · slices_S8x128x4_S8x128x2_0_0_2) main_arg1
  let main_cst_0 : FVec F S_ .f32 := constant S_ .f32 0x00000000#32
  let main_v5 : FVec F S8x128x2 .f32 := broadcastInDim S8x128x2 ![] bcast_S_S8x128x2 main_cst_0
  let main_v6 : IVec S8x128x2 1 := cmpf .oge main_v4 main_v5
  let main_c_1 : IVec S_ 1 := constantI S_ 1 1#1
  let main_v7 : IVec S_ 1 := (fun x v => Host.reduce IntOp.andi x v reducesTo_S8x128x2_S_d0_1_2 h_S_) main_v6 main_c_1
  let main_v8 : IVec S_ 1 := andi main_v3 main_v7
  let main_cst_2 : FVec F S_ .f32 := constant S_ .f32 0x7F800000#32
  let main_v9 : FVec F S8x32x32x256 .f32 := broadcastInDim S8x32x32x256 ![] bcast_S_S8x32x32x256 main_cst_2
  let main_v10 : IVec S8x32x32x256 1 := cmpf .olt main_arg0 main_v9
  let main_v11 : IVec S8x32x32x256 1 := broadcastInDim S8x32x32x256 ![] bcast_S_S8x32x32x256 main_v8
  let main_v12 : IVec S8x32x32x256 1 := andi main_v10 main_v11
  main_v12
-- ==== Kernel.lean ====
abbrev S8x32x32x256 : Shape := ⟨4, ![8, 32, 32, 256]⟩
abbrev S8x128x4 : Shape := ⟨3, ![8, 128, 4]⟩
abbrev S4 : Shape := ⟨1, ![4]⟩
abbrev S1024x4 : Shape := ⟨2, ![1024, 4]⟩
abbrev S1x4 : Shape := ⟨2, ![1, 4]⟩
abbrev S1024x1 : Shape := ⟨2, ![1024, 1]⟩
abbrev S1024 : Shape := ⟨1, ![1024]⟩
abbrev S_ : Shape := ⟨0, ![]⟩
abbrev S14 : Shape := ⟨1, ![14]⟩
abbrev S1x14 : Shape := ⟨2, ![1, 14]⟩
abbrev S1024x14 : Shape := ⟨2, ![1024, 14]⟩
abbrev S1024x7 : Shape := ⟨2, ![1024, 7]⟩
abbrev S1024x7x1 : Shape := ⟨3, ![1024, 7, 1]⟩
abbrev S1024x7x2 : Shape := ⟨3, ![1024, 7, 2]⟩
abbrev S1024x1x2 : Shape := ⟨3, ![1024, 1, 2]⟩
abbrev S1024x8x2 : Shape := ⟨3, ![1024, 8, 2]⟩
abbrev S8x896x2 : Shape := ⟨3, ![8, 896, 2]⟩
abbrev S8x1024x2 : Shape := ⟨3, ![8, 1024, 2]⟩
abbrev S8x128x7x7x256 : Shape := ⟨5, ![8, 128, 7, 7, 256]⟩
abbrev S1x896x2 : Shape := ⟨3, ![1, 896, 2]⟩
abbrev S1x1024x2 : Shape := ⟨3, ![1, 1024, 2]⟩
abbrev S1x32x32x256 : Shape := ⟨4, ![1, 32, 32, 256]⟩
abbrev S1x128x7x8x256 : Shape := ⟨5, ![1, 128, 7, 8, 256]⟩
abbrev S896x2 : Shape := ⟨2, ![896, 2]⟩
abbrev S1024x2 : Shape := ⟨2, ![1024, 2]⟩
abbrev S1x128 : Shape := ⟨2, ![1, 128]⟩
abbrev S896x1 : Shape := ⟨2, ![896, 1]⟩
abbrev S896x128 : Shape := ⟨2, ![896, 128]⟩
abbrev S128x1024 : Shape := ⟨2, ![128, 1024]⟩
abbrev S896x1024 : Shape := ⟨2, ![896, 1024]⟩
abbrev S1024x128 : Shape := ⟨2, ![1024, 128]⟩
abbrev S1024x1024 : Shape := ⟨2, ![1024, 1024]⟩
abbrev S896x1x1024 : Shape := ⟨3, ![896, 1, 1024]⟩
abbrev S896x8x1024 : Shape := ⟨3, ![896, 8, 1024]⟩
abbrev S7168x1024 : Shape := ⟨2, ![7168, 1024]⟩
abbrev S128x1x8x1024 : Shape := ⟨4, ![128, 1, 8, 1024]⟩
abbrev S128x7x8x1024 : Shape := ⟨4, ![128, 7, 8, 1024]⟩
abbrev S32x32x256 : Shape := ⟨3, ![32, 32, 256]⟩
abbrev S1024x256 : Shape := ⟨2, ![1024, 256]⟩
abbrev S7168x256 : Shape := ⟨2, ![7168, 256]⟩
abbrev S128x7x8x256 : Shape := ⟨4, ![128, 7, 8, 256]⟩

abbrev nBuf : Space → Nat
  | .hbm => 116
  | .vmem => 8
  | .smem => 0
  | _ => 0

abbrev bufTy : (tb : Table) → Fin (tcTables nBuf tb) → BufTy
  | .hbm, ⟨0, _⟩ => ⟨S8x32x32x256, .f32⟩
  | .hbm, ⟨1, _⟩ => ⟨S8x128x4, .f32⟩
  | .hbm, ⟨2, _⟩ => ⟨S4, .f32⟩
  | .hbm, ⟨3, _⟩ => ⟨S1024x4, .f32⟩
  | .hbm, ⟨4, _⟩ => ⟨S1x4, .f32⟩
  | .hbm, ⟨5, _⟩ => ⟨S1024x4, .f32⟩
  | .hbm, ⟨6, _⟩ => ⟨S1024x4, .f32⟩
  | .hbm, ⟨7, _⟩ => ⟨S1024x1, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024x1, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024x1, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S14, .f32⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S1x14, .f32⟩
  | .hbm, ⟨69, _⟩ => ⟨S1024, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1024x1, .f32⟩
  | .hbm, ⟨77, _⟩ => ⟨S1024x14, .f32⟩
  | .hbm, ⟨78, _⟩ => ⟨S1024x14, .f32⟩
  | .hbm, ⟨79, _⟩ => ⟨S1024x14, .f32⟩
  | .hbm, ⟨80, _⟩ => ⟨S1024x14, .f32⟩
  | .hbm, ⟨81, _⟩ => ⟨S1024x14, .f32⟩
  | .hbm, ⟨82, _⟩ => ⟨S1024x1, .f32⟩
  | .hbm, ⟨83, _⟩ => ⟨S_, .f32⟩
  | .hbm, ⟨84, _⟩ => ⟨S1024x1, .f32⟩
  | .hbm, ⟨85, _⟩ => ⟨S1024x1, .f32⟩
  | .hbm, ⟨86, _⟩ => ⟨S1x14, .f32⟩
  | .hbm, ⟨87, _⟩ => ⟨S1024, .f32⟩
  | .hbm, ⟨88, _⟩ => ⟨S_, .f32⟩
  | .hbm, ⟨89, _⟩ => ⟨S1024, .f32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1024, .f32⟩
  | .hbm, ⟨94, _⟩ => ⟨S1024x1, .f32⟩
  | .hbm, ⟨95, _⟩ => ⟨S1024x14, .f32⟩
  | .hbm, ⟨96, _⟩ => ⟨S1024x14, .f32⟩
  | .hbm, ⟨97, _⟩ => ⟨S1024x14, .f32⟩
  | .hbm, ⟨98, _⟩ => ⟨S1024x14, .f32⟩
  | .hbm, ⟨99, _⟩ => ⟨S1024x14, .f32⟩
  | .hbm, ⟨100, _⟩ => ⟨S1024x7, .f32⟩
  | .hbm, ⟨101, _⟩ => ⟨S1024x7, .f32⟩
  | .hbm, ⟨102, _⟩ => ⟨S1024x7x1, .f32⟩
  | .hbm, ⟨103, _⟩ => ⟨S1024x7x1, .f32⟩
  | .hbm, ⟨104, _⟩ => ⟨S1024x7x2, .f32⟩
  | .hbm, ⟨105, _⟩ => ⟨S1024x7, .f32⟩
  | .hbm, ⟨106, _⟩ => ⟨S1024x7, .f32⟩
  | .hbm, ⟨107, _⟩ => ⟨S1024x7x1, .f32⟩
  | .hbm, ⟨108, _⟩ => ⟨S1024x7x1, .f32⟩
  | .hbm, ⟨109, _⟩ => ⟨S1024x7x2, .f32⟩
  | .hbm, ⟨110, _⟩ => ⟨S_, .f32⟩
  | .hbm, ⟨111, _⟩ => ⟨S1024x1x2, .f32⟩
  | .hbm, ⟨112, _⟩ => ⟨S1024x8x2, .f32⟩
  | .hbm, ⟨113, _⟩ => ⟨S8x896x2, .f32⟩
  | .hbm, ⟨114, _⟩ => ⟨S8x1024x2, .f32⟩
  | .hbm, ⟨115, _⟩ => ⟨S8x128x7x7x256, .f32⟩
  | .local _ .vmem, ⟨0, _⟩ => ⟨S1x896x2, .f32⟩
  | .local _ .vmem, ⟨1, _⟩ => ⟨S1x896x2, .f32⟩
  | .local _ .vmem, ⟨2, _⟩ => ⟨S1x1024x2, .f32⟩
  | .local _ .vmem, ⟨3, _⟩ => ⟨S1x1024x2, .f32⟩
  | .local _ .vmem, ⟨4, _⟩ => ⟨S1x32x32x256, .f32⟩
  | .local _ .vmem, ⟨5, _⟩ => ⟨S1x32x32x256, .f32⟩
  | .local _ .vmem, ⟨6, _⟩ => ⟨S1x128x7x8x256, .f32⟩
  | .local _ .vmem, ⟨7, _⟩ => ⟨S1x128x7x8x256, .f32⟩
  | _, _ => ⟨S8x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_14 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_15 : Ref sig .tc := ⟨.hbm, 70, rfl⟩
abbrev main_v52 : Ref sig .tc := ⟨.hbm, 71, rfl⟩
abbrev main_v53 : Ref sig .tc := ⟨.hbm, 72, rfl⟩
abbrev main_cst_16 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_17 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_18 : Ref sig .tc := ⟨.hbm, 88, rfl⟩
abbrev main_v67 : Ref sig .tc := ⟨.hbm, 89, rfl⟩
abbrev main_v68 : Ref sig .tc := ⟨.hbm, 90, rfl⟩
abbrev main_cst_19 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_20 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x896x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x7x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x32x32x256 : Shape := ⟨4, ![8, 32, 32, 256]⟩
abbrev S8x128x4 : Shape := ⟨3, ![8, 128, 4]⟩
abbrev S4 : Shape := ⟨1, ![4]⟩
abbrev S1024x4 : Shape := ⟨2, ![1024, 4]⟩
abbrev S1x4 : Shape := ⟨2, ![1, 4]⟩
abbrev S1024x1 : Shape := ⟨2, ![1024, 1]⟩
abbrev S1024 : Shape := ⟨1, ![1024]⟩
abbrev S_ : Shape := ⟨0, ![]⟩
abbrev S14 : Shape := ⟨1, ![14]⟩
abbrev S1x14 : Shape := ⟨2, ![1, 14]⟩
abbrev S1024x14 : Shape := ⟨2, ![1024, 14]⟩
abbrev S1024x14x1x1 : Shape := ⟨4, ![1024, 14, 1, 1]⟩
abbrev S1024x1x14x1 : Shape := ⟨4, ![1024, 1, 14, 1]⟩
abbrev S8 : Shape := ⟨1, ![8]⟩
abbrev S8x128 : Shape := ⟨2, ![8, 128]⟩
abbrev S1024x1x1 : Shape := ⟨3, ![1024, 1, 1]⟩
abbrev S1024x14x1 : Shape := ⟨3, ![1024, 14, 1]⟩
abbrev S1024x1x14 : Shape := ⟨3, ![1024, 1, 14]⟩
abbrev S1024x14x14 : Shape := ⟨3, ![1024, 14, 14]⟩
abbrev S1024x14x14x1 : Shape := ⟨4, ![1024, 14, 14, 1]⟩
abbrev S1024x14x14x3 : Shape := ⟨4, ![1024, 14, 14, 3]⟩
abbrev S1024x14x14x256 : Shape := ⟨4, ![1024, 14, 14, 256]⟩
abbrev S1024x7x2x7x2x256 : Shape := ⟨6, ![1024, 7, 2, 7, 2, 256]⟩
abbrev S1024x7x7x256 : Shape := ⟨4, ![1024, 7, 7, 256]⟩
abbrev S8x128x7x7x256 : Shape := ⟨5, ![8, 128, 7, 7, 256]⟩

abbrev nBuf : Space → Nat
  | .hbm => 291
  | .vmem => 0
  | .smem => 0
  | _ => 0

abbrev hbmTy0_0 (i : Nat) : BufTy := match i % 128 with
  | 0 => ⟨S8x32x32x256, .f32⟩
  | 1 => ⟨S8x128x4, .f32⟩
  | 2 => ⟨S4, .f32⟩
  | 3 => ⟨S1024x4, .f32⟩
  | 4 => ⟨S1x4, .f32⟩
  | 5 => ⟨S1024x4, .f32⟩
  | 6 => ⟨S1024x4, .f32⟩
  | 7 => ⟨S1024x1, .f32⟩
  | 8 => ⟨S1024, .f32⟩
  | 9 => ⟨S_, .f32⟩
  | 10 => ⟨S1024, .f32⟩
  | 11 => ⟨S1024, .f32⟩
  | 12 => ⟨S1024x1, .f32⟩
  | 13 => ⟨S1024, .f32⟩
  | 14 => ⟨S_, .f32⟩
  | 15 => ⟨S1024, .f32⟩
  | 16 => ⟨S1024, .f32⟩
  | 17 => ⟨S1024x1, .f32⟩
  | 18 => ⟨S1024, .f32⟩
  | 19 => ⟨S_, .f32⟩
  | 20 => ⟨S1024, .f32⟩
  | 21 => ⟨S1024, .f32⟩
  | 22 => ⟨S1024x1, .f32⟩
  | 23 => ⟨S1024, .f32⟩
  | 24 => ⟨S_, .f32⟩
  | 25 => ⟨S1024, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S_, .f32⟩
  | 33 => ⟨S1024, .f32⟩
  | 34 => ⟨S1024, .f32⟩
  | 35 => ⟨S_, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S_, .f32⟩
  | 43 => ⟨S1024, .f32⟩
  | 44 => ⟨S1024, .f32⟩
  | 45 => ⟨S_, .f32⟩
  | 46 => ⟨S1024, .f32⟩
  | 47 => ⟨S1024, .f32⟩
  | 48 => ⟨S1024, .f32⟩
  | 49 => ⟨S_, .f32⟩
  | 50 => ⟨S1024, .f32⟩
  | 51 => ⟨S1024, .f32⟩
  | 52 => ⟨S_, .f32⟩
  | 53 => ⟨S1024, .f32⟩
  | 54 => ⟨S1024, .f32⟩
  | 55 => ⟨S1024, .f32⟩
  | 56 => ⟨S_, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S14, .f32⟩
  | 64 => ⟨S1024x1, .f32⟩
  | 65 => ⟨S_, .f32⟩
  | 66 => ⟨S1024x1, .f32⟩
  | 67 => ⟨S1024x1, .f32⟩
  | 68 => ⟨S1x14, .f32⟩
  | 69 => ⟨S1024, .f32⟩
  | 70 => ⟨S_, .f32⟩
  | 71 => ⟨S1024, .f32⟩
  | 72 => ⟨S1024, .f32⟩
  | 73 => ⟨S_, .f32⟩
  | 74 => ⟨S1024, .f32⟩
  | 75 => ⟨S1024, .f32⟩
  | 76 => ⟨S1024x1, .f32⟩
  | 77 => ⟨S1024x14, .f32⟩
  | 78 => ⟨S1024x14, .f32⟩
  | 79 => ⟨S1024x14, .f32⟩
  | 80 => ⟨S1024x14, .f32⟩
  | 81 => ⟨S1024x14, .f32⟩
  | 82 => ⟨S1024x1, .f32⟩
  | 83 => ⟨S_, .f32⟩
  | 84 => ⟨S1024x1, .f32⟩
  | 85 => ⟨S1024x1, .f32⟩
  | 86 => ⟨S1x14, .f32⟩
  | 87 => ⟨S1024, .f32⟩
  | 88 => ⟨S_, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024x1, .f32⟩
  | 95 => ⟨S1024x14, .f32⟩
  | 96 => ⟨S1024x14, .f32⟩
  | 97 => ⟨S1024x14, .f32⟩
  | 98 => ⟨S1024x14, .f32⟩
  | 99 => ⟨S1024x14, .f32⟩
  | 100 => ⟨S1024x14, .f32⟩
  | 101 => ⟨S1024x14, .f32⟩
  | 102 => ⟨S1024x14, .f32⟩
  | 103 => ⟨S1024x14x1x1, .f32⟩
  | 104 => ⟨S1024x14, .f32⟩
  | 105 => ⟨S1024x1x14x1, .f32⟩
  | 106 => ⟨S1024x14, .i32⟩
  | 107 => ⟨S_, .i32⟩
  | 108 => ⟨S_, .i32⟩
  | 109 => ⟨S_, .i32⟩
  | 110 => ⟨S1024x14, .i32⟩
  | 111 => ⟨S1024x14, .i32⟩
  | 112 => ⟨S_, .i32⟩
  | 113 => ⟨S1024x14, .i32⟩
  | 114 => ⟨S1024x14, .i32⟩
  | 115 => ⟨S1024x14, .i32⟩
  | 116 => ⟨S_, .i32⟩
  | 117 => ⟨S1024x14, .i32⟩
  | 118 => ⟨S1024x14, .i32⟩
  | 119 => ⟨S_, .i32⟩
  | 120 => ⟨S_, .i32⟩
  | 121 => ⟨S_, .i32⟩
  | 122 => ⟨S1024x14, .i32⟩
  | 123 => ⟨S1024x14, .i32⟩
  | 124 => ⟨S_, .i32⟩
  | 125 => ⟨S1024x14, .i32⟩
  | 126 => ⟨S1024x14, .i32⟩
  | 127 => ⟨S1024x14, .i32⟩
  | _ => ⟨S8x32x32x256, .f32⟩

abbrev hbmTy0_1 (i : Nat) : BufTy := match i % 128 with
  | 0 => ⟨S_, .i32⟩
  | 1 => ⟨S_, .i32⟩
  | 2 => ⟨S_, .i32⟩
  | 3 => ⟨S1024x14, .i32⟩
  | 4 => ⟨S1024x14, .i32⟩
  | 5 => ⟨S_, .i32⟩
  | 6 => ⟨S1024x14, .i32⟩
  | 7 => ⟨S1024x14, .i32⟩
  | 8 => ⟨S1024x14, .i32⟩
  | 9 => ⟨S_, .i32⟩
  | 10 => ⟨S1024x14, .i32⟩
  | 11 => ⟨S1024x14, .i32⟩
  | 12 => ⟨S_, .i32⟩
  | 13 => ⟨S_, .i32⟩
  | 14 => ⟨S_, .i32⟩
  | 15 => ⟨S1024x14, .i32⟩
  | 16 => ⟨S1024x14, .i32⟩
  | 17 => ⟨S_, .i32⟩
  | 18 => ⟨S1024x14, .i32⟩
  | 19 => ⟨S1024x14, .i32⟩
  | 20 => ⟨S8, .i32⟩
  | 21 => ⟨S8x128, .i32⟩
  | 22 => ⟨S1024, .i32⟩
  | 23 => ⟨S1024x1x1, .i32⟩
  | 24 => ⟨S1024x14x1, .i32⟩
  | 25 => ⟨S1024x14x1, .i32⟩
  | 26 => ⟨S1024x1x14, .i32⟩
  | 27 => ⟨S1024x1x14, .i32⟩
  | 28 => ⟨S_, .i32⟩
  | 29 => ⟨S1024x1x1, .i32⟩
  | 30 => ⟨S1024x1x1, .i1⟩
  | 31 => ⟨S_, .i32⟩
  | 32 => ⟨S1024x1x1, .i32⟩
  | 33 => ⟨S1024x1x1, .i32⟩
  | 34 => ⟨S1024x1x1, .i32⟩
  | 35 => ⟨S_, .i32⟩
  | 36 => ⟨S1024x14x1, .i32⟩
  | 37 => ⟨S1024x14x1, .i1⟩
  | 38 => ⟨S_, .i32⟩
  | 39 => ⟨S1024x14x1, .i32⟩
  | 40 => ⟨S1024x14x1, .i32⟩
  | 41 => ⟨S1024x14x1, .i32⟩
  | 42 => ⟨S_, .i32⟩
  | 43 => ⟨S1024x1x14, .i32⟩
  | 44 => ⟨S1024x1x14, .i1⟩
  | 45 => ⟨S_, .i32⟩
  | 46 => ⟨S1024x1x14, .i32⟩
  | 47 => ⟨S1024x1x14, .i32⟩
  | 48 => ⟨S1024x1x14, .i32⟩
  | 49 => ⟨S1024x14x14, .i32⟩
  | 50 => ⟨S1024x14x14, .i32⟩
  | 51 => ⟨S1024x14x14, .i32⟩
  | 52 => ⟨S1024x14x14x1, .i32⟩
  | 53 => ⟨S1024x14x14x1, .i32⟩
  | 54 => ⟨S1024x14x14x1, .i32⟩
  | 55 => ⟨S1024x14x14x3, .i32⟩
  | 56 => ⟨S1024x14x14x256, .f32⟩
  | 57 => ⟨S_, .i32⟩
  | 58 => ⟨S1024x1x1, .i32⟩
  | 59 => ⟨S1024x1x1, .i1⟩
  | 60 => ⟨S_, .i32⟩
  | 61 => ⟨S1024x1x1, .i32⟩
  | 62 => ⟨S1024x1x1, .i32⟩
  | 63 => ⟨S1024x1x1, .i32⟩
  | 64 => ⟨S_, .i32⟩
  | 65 => ⟨S1024x14x1, .i32⟩
  | 66 => ⟨S1024x14x1, .i1⟩
  | 67 => ⟨S_, .i32⟩
  | 68 => ⟨S1024x14x1, .i32⟩
  | 69 => ⟨S1024x14x1, .i32⟩
  | 70 => ⟨S1024x14x1, .i32⟩
  | 71 => ⟨S_, .i32⟩
  | 72 => ⟨S1024x1x14, .i32⟩
  | 73 => ⟨S1024x1x14, .i1⟩
  | 74 => ⟨S_, .i32⟩
  | 75 => ⟨S1024x1x14, .i32⟩
  | 76 => ⟨S1024x1x14, .i32⟩
  | 77 => ⟨S1024x1x14, .i32⟩
  | 78 => ⟨S1024x14x14, .i32⟩
  | 79 => ⟨S1024x14x14, .i32⟩
  | 80 => ⟨S1024x14x14, .i32⟩
  | 81 => ⟨S1024x14x14x1, .i32⟩
  | 82 => ⟨S1024x14x14x1, .i32⟩
  | 83 => ⟨S1024x14x14x1, .i32⟩
  | 84 => ⟨S1024x14x14x3, .i32⟩
  | 85 => ⟨S1024x14x14x256, .f32⟩
  | 86 => ⟨S_, .i32⟩
  | 87 => ⟨S1024x1x1, .i32⟩
  | 88 => ⟨S1024x1x1, .i1⟩
  | 89 => ⟨S_, .i32⟩
  | 90 => ⟨S1024x1x1, .i32⟩
  | 91 => ⟨S1024x1x1, .i32⟩
  | 92 => ⟨S1024x1x1, .i32⟩
  | 93 => ⟨S_, .i32⟩
  | 94 => ⟨S1024x14x1, .i32⟩
  | 95 => ⟨S1024x14x1, .i1⟩
  | 96 => ⟨S_, .i32⟩
  | 97 => ⟨S1024x14x1, .i32⟩
  | 98 => ⟨S1024x14x1, .i32⟩
  | 99 => ⟨S1024x14x1, .i32⟩
  | 100 => ⟨S_, .i32⟩
  | 101 => ⟨S1024x1x14, .i32⟩
  | 102 => ⟨S1024x1x14, .i1⟩
  | 103 => ⟨S_, .i32⟩
  | 104 => ⟨S1024x1x14, .i32⟩
  | 105 => ⟨S1024x1x14, .i32⟩
  | 106 => ⟨S1024x1x14, .i32⟩
  | 107 => ⟨S1024x14x14, .i32⟩
  | 108 => ⟨S1024x14x14, .i32⟩
  | 109 => ⟨S1024x14x14, .i32⟩
  | 110 => ⟨S1024x14x14x1, .i32⟩
  | 111 => ⟨S1024x14x14x1, .i32⟩
  | 112 => ⟨S1024x14x14x1, .i32⟩
  | 113 => ⟨S1024x14x14x3, .i32⟩
  | 114 => ⟨S1024x14x14x256, .f32⟩
  | 115 => ⟨S_, .i32⟩
  | 116 => ⟨S1024x1x1, .i32⟩
  | 117 => ⟨S1024x1x1, .i1⟩
  | 118 => ⟨S_, .i32⟩
  | 119 => ⟨S1024x1x1, .i32⟩
  | 120 => ⟨S1024x1x1, .i32⟩
  | 121 => ⟨S1024x1x1, .i32⟩
  | 122 => ⟨S_, .i32⟩
  | 123 => ⟨S1024x14x1, .i32⟩
  | 124 => ⟨S1024x14x1, .i1⟩
  | 125 => ⟨S_, .i32⟩
  | 126 => ⟨S1024x14x1, .i32⟩
  | 127 => ⟨S1024x14x1, .i32⟩
  | _ => ⟨S8x32x32x256, .f32⟩

abbrev hbmTy0_2 (i : Nat) : BufTy := match i % 128 with
  | 0 => ⟨S1024x14x1, .i32⟩
  | 1 => ⟨S_, .i32⟩
  | 2 => ⟨S1024x1x14, .i32⟩
  | 3 => ⟨S1024x1x14, .i1⟩
  | 4 => ⟨S_, .i32⟩
  | 5 => ⟨S1024x1x14, .i32⟩
  | 6 => ⟨S1024x1x14, .i32⟩
  | 7 => ⟨S1024x1x14, .i32⟩
  | 8 => ⟨S1024x14x14, .i32⟩
  | 9 => ⟨S1024x14x14, .i32⟩
  | 10 => ⟨S1024x14x14, .i32⟩
  | 11 => ⟨S1024x14x14x1, .i32⟩
  | 12 => ⟨S1024x14x14x1, .i32⟩
  | 13 => ⟨S1024x14x14x1, .i32⟩
  | 14 => ⟨S1024x14x14x3, .i32⟩
  | 15 => ⟨S1024x14x14x256, .f32⟩
  | 16 => ⟨S1024x14x14x256, .f32⟩
  | 17 => ⟨S1024x14x14x256, .f32⟩
  | 18 => ⟨S1024x14x14x256, .f32⟩
  | 19 => ⟨S1024x14x14x256, .f32⟩
  | 20 => ⟨S1024x14x14x256, .f32⟩
  | 21 => ⟨S1024x14x14x256, .f32⟩
  | 22 => ⟨S1024x14x14x256, .f32⟩
  | 23 => ⟨S1024x14x14x256, .f32⟩
  | 24 => ⟨S1024x14x14x256, .f32⟩
  | 25 => ⟨S1024x14x14x256, .f32⟩
  | 26 => ⟨S1024x14x14x256, .f32⟩
  | 27 => ⟨S1024x14x14x256, .f32⟩
  | 28 => ⟨S1024x7x2x7x2x256, .f32⟩
  | 29 => ⟨S_, .f32⟩
  | 30 => ⟨S1024x7x7x256, .f32⟩
  | 31 => ⟨S_, .f32⟩
  | 32 => ⟨S1024x7x7x256, .f32⟩
  | 33 => ⟨S1024x7x7x256, .f32⟩
  | 34 => ⟨S8x128x7x7x256, .f32⟩
  | _ => ⟨S8x32x32x256, .f32⟩

abbrev hbmTy (i : Nat) : BufTy := match i / 128 with
  | 0 => hbmTy0_0 i
  | 1 => hbmTy0_1 i
  | 2 => hbmTy0_2 i
  | _ => ⟨S8x32x32x256, .f32⟩

abbrev bufTy : (tb : Table) → Fin (tcTables nBuf tb) → BufTy
  | .hbm, ⟨i, _⟩ => hbmTy i
  | _, _ => ⟨S8x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_14 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_15 : Ref sig .tc := ⟨.hbm, 70, rfl⟩
abbrev main_v52 : Ref sig .tc := ⟨.hbm, 71, rfl⟩
abbrev main_v53 : Ref sig .tc := ⟨.hbm, 72, rfl⟩
abbrev main_cst_16 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_17 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_18 : Ref sig .tc := ⟨.hbm, 88, rfl⟩
abbrev main_v67 : Ref sig .tc := ⟨.hbm, 89, rfl⟩
abbrev main_v68 : Ref sig .tc := ⟨.hbm, 90, rfl⟩
abbrev main_cst_19 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c : Ref sig .tc := ⟨.hbm, 107, rfl⟩
abbrev main_c_20 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_v84 : Ref sig .tc := ⟨.hbm, 114, rfl⟩
abbrev main_v85 : Ref sig .tc := ⟨.hbm, 115, rfl⟩
abbrev main_c_21 : Ref sig .tc := ⟨.hbm, 116, rfl⟩
abbrev main_v86 : Ref sig .tc := ⟨.hbm, 117, rfl⟩
abbrev main_v87 : Ref sig .tc := ⟨.hbm, 118, rfl⟩
abbrev main_c_22 : Ref sig .tc := ⟨.hbm, 119, rfl⟩
abbrev main_c_23 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_v88 : Ref sig .tc := ⟨.hbm, 126, rfl⟩
abbrev main_v89 : Ref sig .tc := ⟨.hbm, 127, rfl⟩
abbrev main_c_24 : Ref sig .tc := ⟨.hbm, 128, rfl⟩
abbrev main_c_25 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_v90 : Ref sig .tc := ⟨.hbm, 135, rfl⟩
abbrev main_v91 : Ref sig .tc := ⟨.hbm, 136, rfl⟩
abbrev main_c_26 : Ref sig .tc := ⟨.hbm, 137, rfl⟩
abbrev main_v92 : Ref sig .tc := ⟨.hbm, 138, rfl⟩
abbrev main_v93 : Ref sig .tc := ⟨.hbm, 139, rfl⟩
abbrev main_c_27 : Ref sig .tc := ⟨.hbm, 140, rfl⟩
abbrev main_c_28 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_c_29 : Ref sig .tc := ⟨.hbm, 156, rfl⟩
abbrev main_v103 : Ref sig .tc := ⟨.hbm, 157, rfl⟩
abbrev main_v104 : Ref sig .tc := ⟨.hbm, 158, rfl⟩
abbrev main_c_30 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_c_31 : Ref sig .tc := ⟨.hbm, 163, rfl⟩
abbrev main_v108 : Ref sig .tc := ⟨.hbm, 164, rfl⟩
abbrev main_v109 : Ref sig .tc := ⟨.hbm, 165, rfl⟩
abbrev main_c_32 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_c_33 : Ref sig .tc := ⟨.hbm, 170, rfl⟩
abbrev main_v113 : Ref sig .tc := ⟨.hbm, 171, rfl⟩
abbrev main_v114 : Ref sig .tc := ⟨.hbm, 172, rfl⟩
abbrev main_c_34 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_c_35 : Ref sig .tc := ⟨.hbm, 185, rfl⟩
abbrev main_v126 : Ref sig .tc := ⟨.hbm, 186, rfl⟩
abbrev main_v127 : Ref sig .tc := ⟨.hbm, 187, rfl⟩
abbrev main_c_36 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_c_37 : Ref sig .tc := ⟨.hbm, 192, rfl⟩
abbrev main_v131 : Ref sig .tc := ⟨.hbm, 193, rfl⟩
abbrev main_v132 : Ref sig .tc := ⟨.hbm, 194, rfl⟩
abbrev main_c_38 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_c_39 : Ref sig .tc := ⟨.hbm, 199, rfl⟩
abbrev main_v136 : Ref sig .tc := ⟨.hbm, 200, rfl⟩
abbrev main_v137 : Ref sig .tc := ⟨.hbm, 201, rfl⟩
abbrev main_c_40 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_c_41 : Ref sig .tc := ⟨.hbm, 214, rfl⟩
abbrev main_v149 : Ref sig .tc := ⟨.hbm, 215, rfl⟩
abbrev main_v150 : Ref sig .tc := ⟨.hbm, 216, rfl⟩
abbrev main_c_42 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_c_43 : Ref sig .tc := ⟨.hbm, 221, rfl⟩
abbrev main_v154 : Ref sig .tc := ⟨.hbm, 222, rfl⟩
abbrev main_v155 : Ref sig .tc := ⟨.hbm, 223, rfl⟩
abbrev main_c_44 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_c_45 : Ref sig .tc := ⟨.hbm, 228, rfl⟩
abbrev main_v159 : Ref sig .tc := ⟨.hbm, 229, rfl⟩
abbrev main_v160 : Ref sig .tc := ⟨.hbm, 230, rfl⟩
abbrev main_c_46 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_47 : Ref sig .tc := ⟨.hbm, 243, rfl⟩
abbrev main_v172 : Ref sig .tc := ⟨.hbm, 244, rfl⟩
abbrev main_v173 : Ref sig .tc := ⟨.hbm, 245, rfl⟩
abbrev main_c_48 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_c_49 : Ref sig .tc := ⟨.hbm, 250, rfl⟩
abbrev main_v177 : Ref sig .tc := ⟨.hbm, 251, rfl⟩
abbrev main_v178 : Ref sig .tc := ⟨.hbm, 252, rfl⟩
abbrev main_c_50 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_c_51 : Ref sig .tc := ⟨.hbm, 257, rfl⟩
abbrev main_v182 : Ref sig .tc := ⟨.hbm, 258, rfl⟩
abbrev main_v183 : Ref sig .tc := ⟨.hbm, 259, rfl⟩
abbrev main_c_52 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_cst_53 : Ref sig .tc := ⟨.hbm, 285, rfl⟩
abbrev main_v208 : Ref sig .tc := ⟨.hbm, 286, rfl⟩
abbrev main_cst_54 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩

abbrev nD : Nat := 1
abbrev τ : Topo := Topo.v7x

variable {F : FTy → Type} [FloatOps F]
-- ==== Proof.Tent.lean ====
module

public import Mathlib.Data.EReal.Operations
public import Mathlib.Data.EReal.Inv
public import Mathlib.Algebra.Order.Floor.Ring
public import Mathlib.Algebra.BigOperators.Fin
public import Mathlib.Tactic.Linarith
public import Mathlib.Tactic.FieldSimp
public import Mathlib.Tactic.Ring

@[expose] public section

/-! The mathematics of the interpolation: the triangular weights of a position in a row of 32 cells are nonnegative reals
    that put all their mass on the two cells beside it. The values weighted are extended reals other than +inf, over which
    such weights still distribute. -/

noncomputable section

namespace Cert.Roi

/-- The triangular weight of a position `p` at cell `h`, on the real line. -/
def tentR (p : ℝ) (h : ℕ) : ℝ := max (1 - |p - h|) 0

/-- The lower of the two cells beside a position, held inside the row. -/
def lo (p : ℝ) : Fin 32 := ⟨(min 31 (max 0 ⌊p⌋)).toNat, by omega⟩

/-- The upper of the two cells beside a position, held inside the row. -/
def hi (p : ℝ) : Fin 32 := ⟨(min 31 (max 0 (⌊p⌋ + 1))).toNat, by omega⟩

/-- The value at a position between two cells: the straight line through them. -/
def lerp (p : ℝ) (g : Fin 32 → EReal) : EReal := g (lo p) + (g (hi p) - g (lo p)) * ((p - ⌊p⌋ : ℝ) : EReal)

/-- Triangular weights are not negative. -/
theorem tentR_nonneg (p : ℝ) (h : ℕ) : 0 ≤ tentR p h := le_max_right _ _

/-- At the cell below a position the weight is what the fractional part leaves of one. -/
theorem tentR_floor (p : ℝ) (h : ℕ) (e : (h : ℤ) = ⌊p⌋) : tentR p h = 1 - (p - ⌊p⌋) := by
  have e' : (h : ℝ) = (⌊p⌋ : ℝ) := by exact_mod_cast e
  unfold tentR
  rw [e', abs_of_nonneg (by linarith [Int.floor_le p]), max_eq_left (by linarith [Int.lt_floor_add_one p])]

/-- At the cell above a position the weight is the fractional part. -/
theorem tentR_succ (p : ℝ) (h : ℕ) (e : (h : ℤ) = ⌊p⌋ + 1) : tentR p h = p - ⌊p⌋ := by
  have e' : (h : ℝ) = (⌊p⌋ : ℝ) + 1 := by exact_mod_cast e
  unfold tentR
  rw [e', abs_of_nonpos (by linarith [Int.lt_floor_add_one p]), max_eq_left (by linarith [Int.floor_le p])]
  ring

/-- Everywhere else the weight is zero. -/
theorem tentR_far (p : ℝ) (h : ℕ) (e₁ : (h : ℤ) ≠ ⌊p⌋) (e₂ : (h : ℤ) ≠ ⌊p⌋ + 1) : tentR p h = 0 := by
  unfold tentR
  apply max_eq_right
  rcases lt_or_gt_of_ne e₁ with l | l
  · have : (h : ℝ) + 1 ≤ ⌊p⌋ := by exact_mod_cast l
    rw [abs_of_nonneg (by linarith [Int.floor_le p])]; linarith [Int.floor_le p]
  · have l₂ : ⌊p⌋ + 1 + 1 ≤ (h : ℤ) := by omega
    have : (⌊p⌋ : ℝ) + 1 + 1 ≤ h := by exact_mod_cast l₂
    rw [abs_of_nonpos (by linarith [Int.lt_floor_add_one p])]; linarith [Int.lt_floor_add_one p]

/-- Two values mixed by weights that add to one lie on the straight line through them; a value -inf with a positive
    weight makes both -inf. -/
theorem mix_eq_line {f : ℝ} (f0 : 0 ≤ f) (f1 : f < 1) {a b : EReal} (ha : a ≠ ⊤) (hb : b ≠ ⊤) :
    ((1 - f : ℝ) : EReal) * a + (f : EReal) * b = a + (b - a) * (f : EReal) := by
  induction a with
  | top => exact absurd rfl ha
  | bot => rw [EReal.coe_mul_bot_of_pos (by linarith), EReal.bot_add, EReal.bot_add]
  | coe a =>
    induction b with
    | top => exact absurd rfl hb
    | bot =>
      rcases f0.eq_or_lt with rfl | pos
      · simp
      · rw [EReal.coe_mul_bot_of_pos pos, EReal.bot_sub, EReal.bot_mul_coe_of_pos pos, EReal.add_bot, EReal.add_bot]
    | coe b =>
      rw [← EReal.coe_sub, ← EReal.coe_mul, ← EReal.coe_mul, ← EReal.coe_mul, ← EReal.coe_add, ← EReal.coe_add]
      congr 1
      ring

/-- A mixture of two values other than +inf is not +inf. -/
theorem mix_ne_top {f : ℝ} (f0 : 0 ≤ f) (f1 : f < 1) {a b : EReal} (ha : a ≠ ⊤) (hb : b ≠ ⊤) :
    a + (b - a) * (f : EReal) ≠ ⊤ := by
  rw [← mix_eq_line f0 f1 ha hb]
  have part {r : ℝ} (r0 : 0 ≤ r) {c : EReal} (hc : c ≠ ⊤) : (r : EReal) * c ≠ ⊤ := by
    induction c with
    | top => exact absurd rfl hc
    | coe c => exact EReal.coe_ne_top _
    | bot =>
      rcases r0.eq_or_lt with rfl | pos
      · simp
      · rw [EReal.coe_mul_bot_of_pos pos]
        exact bot_ne_top
  exact EReal.add_ne_top (part (by linarith) ha) (part f0 hb)

/-- The straight line through values other than +inf is not +inf. -/
theorem lerp_ne_top (p : ℝ) {g : Fin 32 → EReal} (hg : ∀ h, g h ≠ ⊤) : lerp p g ≠ ⊤ :=
  mix_ne_top (by linarith [Int.floor_le p]) (by linarith [Int.lt_floor_add_one p]) (hg _) (hg _)

/-- A nonnegative real distributes over a sum of extended reals. -/
theorem mul_sum_nonneg {r : ℝ} (hr : 0 ≤ r) (f : Fin 32 → EReal) : (r : EReal) * ∑ h, f h = ∑ h, (r : EReal) * f h :=
  map_sum (⟨⟨fun x : EReal => (r : EReal) * x, mul_zero _⟩,
    EReal.left_distrib_of_nonneg_of_ne_top (EReal.coe_nonneg.2 hr) (EReal.coe_ne_top r)⟩ : EReal →+ EReal) f _

/-- For a position inside the row, the sum of a row weighted by its triangle is the straight line through the two
    cells beside it. -/
theorem sum_tentR (p : ℝ) (h0 : 0 ≤ p) (h1 : p ≤ 31) {g : Fin 32 → EReal} (hg : ∀ h, g h ≠ ⊤) :
    ∑ h : Fin 32, (tentR p h : EReal) * g h = lerp p g := by
  have f0 : 0 ≤ ⌊p⌋ := Int.floor_nonneg.2 h0
  have f1 : ⌊p⌋ ≤ 31 := by
    have : (⌊p⌋ : ℝ) ≤ 31 := (Int.floor_le p).trans h1
    exact_mod_cast this
  have elo : ((lo p : ℕ) : ℤ) = ⌊p⌋ := by simp only [lo]; omega
  unfold lerp
  by_cases top : ⌊p⌋ = 31
  · have ehi : hi p = lo p := by apply Fin.ext; simp only [lo, hi]; omega
    have pe : p - (⌊p⌋ : ℝ) = 0 := by
      have : (⌊p⌋ : ℝ) = 31 := by exact_mod_cast top
      linarith [Int.floor_le p]
    rw [Finset.sum_eq_single (lo p) (fun b _ hb => ?_) (fun h => absurd (Finset.mem_univ _) h), tentR_floor p _ elo, pe, ehi]
    · simp
    · have : (b : ℤ) ≠ ⌊p⌋ := fun h => hb (Fin.ext (by omega))
      rw [tentR_far p b this (by have := b.isLt; omega), EReal.coe_zero, zero_mul]
  · have ehi : ((hi p : ℕ) : ℤ) = ⌊p⌋ + 1 := by simp only [hi]; omega
    have ne : lo p ≠ hi p := fun h => by rw [← h] at ehi; omega
    rw [Finset.sum_eq_add (lo p) (hi p) ne (fun b _ hb => ?_) (fun h => absurd (Finset.mem_univ _) h)
      (fun h => absurd (Finset.mem_univ _) h), tentR_floor p _ elo, tentR_succ p _ ehi]
    · exact mix_eq_line (by linarith [Int.floor_le p]) (by linarith [Int.lt_floor_add_one p]) (hg _) (hg _)
    · have a₁ : (b : ℤ) ≠ ⌊p⌋ := fun h => hb.1 (Fin.ext (by omega))
      have a₂ : (b : ℤ) ≠ ⌊p⌋ + 1 := fun h => hb.2 (Fin.ext (by omega))
      rw [tentR_far p b a₁ a₂, EReal.coe_zero, zero_mul]

/-- The two-dimensional value at a position: straight lines along each of the two rows, then one between them. -/
def bilin (y x : ℝ) (g : Fin 32 → Fin 32 → EReal) : EReal := lerp y fun h => lerp x (g h)

/-- The sum of an image weighted by the two triangles is the two-dimensional value. -/
theorem sum_tentR₂ {y x : ℝ} (hy : 0 ≤ y ∧ y ≤ 31) (hx : 0 ≤ x ∧ x ≤ 31) {g : Fin 32 → Fin 32 → EReal} (hg : ∀ h w, g h w ≠ ⊤) :
    ∑ h : Fin 32, ∑ w : Fin 32, (tentR y h : EReal) * ((tentR x w : EReal) * g h w) = bilin y x g := by
  unfold bilin
  rw [← sum_tentR y hy.1 hy.2 fun h => lerp_ne_top x (hg h)]
  refine Finset.sum_congr rfl fun h _ => ?_
  rw [← sum_tentR x hx.1 hx.2 (hg h), mul_sum_nonneg (tentR_nonneg y h)]

/-- A value weighted by a product of two sums of nonnegative weights, multiplied out. -/
theorem expand {a b c d : ℝ} (ha : 0 ≤ a) (hb : 0 ≤ b) (hc : 0 ≤ c) (hd : 0 ≤ d) (v q : EReal) :
    (((a + b) * (c + d) : ℝ) : EReal) * (v * q)
      = q * ((a : EReal) * ((c : EReal) * v) + (a : EReal) * ((d : EReal) * v)
        + ((b : EReal) * ((c : EReal) * v) + (b : EReal) * ((d : EReal) * v))) := by
  rw [← EReal.left_distrib_of_nonneg_of_ne_top (EReal.coe_nonneg.2 ha) (EReal.coe_ne_top a),
    ← EReal.left_distrib_of_nonneg_of_ne_top (EReal.coe_nonneg.2 hb) (EReal.coe_ne_top b),
    ← EReal.right_distrib_of_nonneg (EReal.coe_nonneg.2 hc) (EReal.coe_nonneg.2 hd),
    ← EReal.right_distrib_of_nonneg (EReal.coe_nonneg.2 ha) (EReal.coe_nonneg.2 hb),
    EReal.coe_mul, EReal.coe_add, EReal.coe_add, mul_comm q, mul_assoc, mul_assoc, mul_assoc]

/-- The mean of the values at two rows of positions and two columns of positions is the image weighted by the two
    triangles of each side added up, a quarter of it. -/
theorem mean_bilin (y₀ y₁ x₀ x₁ : ℝ) (hy₀ : 0 ≤ y₀ ∧ y₀ ≤ 31) (hy₁ : 0 ≤ y₁ ∧ y₁ ≤ 31) (hx₀ : 0 ≤ x₀ ∧ x₀ ≤ 31)
    (hx₁ : 0 ≤ x₁ ∧ x₁ ≤ 31) (g : Fin 32 → Fin 32 → EReal) (hg : ∀ h w, g h w ≠ ⊤) :
    ∑ h : Fin 32, ∑ w : Fin 32, (((tentR y₀ h + tentR y₁ h) * (tentR x₀ w + tentR x₁ w) : ℝ) : EReal)
        * (g h w * ((1 / 4 : ℝ) : EReal))
      = (bilin y₀ x₀ g + bilin y₀ x₁ g + (bilin y₁ x₀ g + bilin y₁ x₁ g)) * ((1 / 4 : ℝ) : EReal) := by
  have q0 : (0 : ℝ) ≤ 1 / 4 := by norm_num
  rw [← sum_tentR₂ hy₀ hx₀ hg, ← sum_tentR₂ hy₀ hx₁ hg, ← sum_tentR₂ hy₁ hx₀ hg, ← sum_tentR₂ hy₁ hx₁ hg,
    ← Finset.sum_add_distrib, ← Finset.sum_add_distrib, ← Finset.sum_add_distrib, mul_comm, mul_sum_nonneg q0]
  refine Finset.sum_congr rfl fun h _ => ?_
  rw [← Finset.sum_add_distrib, ← Finset.sum_add_distrib, ← Finset.sum_add_distrib, mul_sum_nonneg q0]
  exact Finset.sum_congr rfl fun w _ =>
    expand (tentR_nonneg _ _) (tentR_nonneg _ _) (tentR_nonneg _ _) (tentR_nonneg _ _) _ _

/-- The sampling row (or column) numbered `s` of bin row (or column) `i`. -/
abbrev sampleNo (i : Fin 7) (s : Fin 2) : Fin 14 := ⟨i.val * 2 + s.val, by omega⟩

/-- The value of one bin: the mean of the bilinear samples at its two-by-two points. -/
def bin (py px : Fin 14 → ℝ) (g : Fin 32 → Fin 32 → EReal) (i j : Fin 7) : EReal :=
  (∑ s : Fin 2, ∑ u : Fin 2, bilin (py (sampleNo i s)) (px (sampleNo j u)) g) * ((1 / 4 : ℝ) : EReal)

end Cert.Roi

end
-- ==== Proof.Coordinate.lean ====
module

public import Idealize.ShloMosaic.Lib.Pointwise
public import proofs.«01_k».proof.Proof.Tent

@[expose] public section

set_option maxRecDepth 16384

/-! The position of a sample along one axis, as both programs compute it off a box's two edges. -/

noncomputable section

open Idealize.ShloMosaic

namespace Cert.Roi

/-- A small natural number read back off its 32-bit word. -/
theorem toInt_small (n : ℕ) (h : n < 1024) : (BitVec.ofNat 32 n).toInt = n := by
  rw [BitVec.toInt_eq_toNat_of_lt (by rw [BitVec.toNat_ofNat]; omega), BitVec.toNat_ofNat]
  omega

/-- How far inside a box's edge its first sample lies, as a fraction of the image: half a bin's half. -/
def inset (a b : EReal) : EReal :=
  Ideal.div (Ideal.ofBits .f32 0x3F000000#32 * Ideal.div
    (min (Ideal.div b (Ideal.ofBits .f32 0x41F80000#32)) 1 - max (Ideal.div a (Ideal.ofBits .f32 0x41F80000#32)) 0)
    (Ideal.ofBits .f32 0x40E00000#32)) (Ideal.ofBits .f32 0x40000000#32)

/-- The position of sample number `i` of a box with lower edge `a` and upper edge `b`, along one axis. -/
def pos (a b : EReal) (i : BitVec 32) : EReal :=
  (max (Ideal.div a (Ideal.ofBits .f32 0x41F80000#32)) 0 + inset a b) * Ideal.ofBits .f32 0x41F80000#32
    + FloatOps.sitofp (F := Ideal) .f32 i * Ideal.div
      ((min (Ideal.div b (Ideal.ofBits .f32 0x41F80000#32)) 1 - inset a b
          - (max (Ideal.div a (Ideal.ofBits .f32 0x41F80000#32)) 0 + inset a b)) * Ideal.ofBits .f32 0x41F80000#32)
      (Ideal.ofBits .f32 0x41500000#32)

end Cert.Roi

end
-- ==== Proof.Payload.lean ====
module

public import proofs.«01_k».proof.Proof.Gen.KernelIdeal.Skeleton
public import Idealize.ShloMosaic.Lib.Pointwise
public import proofs.«01_k».proof.Proof.Coordinate

@[expose] public section

set_option maxRecDepth 16384

/-! What one block of the kernel computes, read at an index: the sum over the 1024 cells of the image of the row weight
    times the column weight times a quarter of the feature. -/

noncomputable section

open Idealize.ShloMosaic Idealize.ShloMosaic.TcCoe Idealize.SL.Sem
open Cert.Roi

namespace Cert.KernelIdeal.Roi

open Cert.KernelIdeal Cert.KernelIdeal.Gen

/-- The kernel's triangular weight of a position `p` at cell number `h`. -/
def tent (p : EReal) (h : ℕ) : EReal := max (1 - max (p - ((h : ℝ) : EReal)) (-(p - ((h : ℝ) : EReal)))) 0

/-- The kernel's lane number modulo 32, as it computes it. -/
theorem lane_word : ∀ h : Fin 128, (Scalar.select
    (IntOp.andi
      (IntOp.xori
        (IntOp.cmpi CmpIPredicate.slt
          (IntOp.remsi ArithUnit.vector (BitVec.ofNat 32 ↑h)
            (Scalar.select (Scalar.cmpi CmpIPredicate.eq 32#32 0#32) 1#32 32#32))
          0#32)
        (Scalar.cmpi CmpIPredicate.slt
          (Scalar.select (Scalar.cmpi CmpIPredicate.eq 32#32 0#32) 1#32 32#32) 0#32))
      (IntOp.cmpi CmpIPredicate.ne
        (IntOp.remsi ArithUnit.vector (BitVec.ofNat 32 ↑h)
          (Scalar.select (Scalar.cmpi CmpIPredicate.eq 32#32 0#32) 1#32 32#32))
        0#32))
    (IntOp.addi
      (IntOp.remsi ArithUnit.vector (BitVec.ofNat 32 ↑h)
        (Scalar.select (Scalar.cmpi CmpIPredicate.eq 32#32 0#32) 1#32 32#32))
      (Scalar.select (Scalar.cmpi CmpIPredicate.eq 32#32 0#32) 1#32 32#32))
    (IntOp.remsi ArithUnit.vector (BitVec.ofNat 32 ↑h)
      (Scalar.select (Scalar.cmpi CmpIPredicate.eq 32#32 0#32) 1#32 32#32))) = BitVec.ofNat 32 (h.val % 32) := by
  decide +kernel

/-- The kernel's cell number divided by 32, as it computes it. -/
theorem cell_word : ∀ k : Fin 1024, (Scalar.select
    (IntOp.andi
      (IntOp.cmpi CmpIPredicate.ne
        (IntOp.subi (BitVec.setWidth 32 (IntOp.cmpi CmpIPredicate.sgt (BitVec.ofNat 32 ↑k) 0#32))
          (BitVec.setWidth 32 (IntOp.cmpi CmpIPredicate.slt (BitVec.ofNat 32 ↑k) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 ↑k) 32#32) 0#32))
    (IntOp.subi (IntOp.divsi ArithUnit.vector (BitVec.ofNat 32 ↑k) 32#32) 1#32)
    (IntOp.divsi ArithUnit.vector (BitVec.ofNat 32 ↑k) 32#32)) = BitVec.ofNat 32 (k.val / 32) := by
  decide +kernel

/-- The two triangular weights of a pair of positions at the cell a lane stands for, added up. -/
theorem pay2_at (y : FVec Ideal S1x896x2 .f32) (q : Fin 896) (h : Fin 128) :
    k0_pay2 (F := Ideal) y (ix2 q h) = tent (y (ix3 0 q 0)) (h.val % 32) + tent (y (ix3 0 q 1)) (h.val % 32) := by
  pointwise [k0_pay2]
  rw [lane_word h]
  simp only [FloatOps.sitofp, FloatOps.absf, toInt_small (h.val % 32) (by omega)]
  rfl

/-- Multiplying by the one-hot matrix picks the lane of the cell's image row. -/
theorem pay3_at (a : FVec Ideal S896x128 .f32) (q : Fin 896) (k : Fin 1024) :
    k0_pay3 (F := Ideal) a (iota .tc S128x1024 32 [0] iota_S128x1024_d0_w32) (ix2 q k) = a (ix2 q ⟨k.val / 32, by omega⟩) := by
  pointwise [k0_pay3]
  rw [cell_word k]
  rw [Finset.sum_eq_single (⟨k.val / 32, by omega⟩ : Fin 128) (fun b _ hb => ?_) (fun h => absurd (Finset.mem_univ _) h)]
  · simp [Scalar.select, IntOp.cmpi]
  · have ne : BitVec.ofNat 32 (k.val / 32) ≠ BitVec.ofNat 32 b.val := fun h => hb (Fin.ext (by
      have := congrArg BitVec.toNat h
      simp only [BitVec.toNat_ofNat] at this
      have := b.isLt
      show b.val = k.val / 32
      omega))
    simp [Scalar.select, IntOp.cmpi, beq_eq_false_iff_ne.2 ne]

/-- Eight copies of a row of 128 side by side, read at a column. -/
theorem ladder {β : Type} (F : Fin 128 → β) (x : Fin 1024) :
    (if h : x.val < 128 then F ⟨x.val, h⟩ else if h : x.val - 128 < 128 then F ⟨x.val - 128, h⟩
      else if h : x.val - 128 - 128 < 128 then F ⟨x.val - 128 - 128, h⟩
      else if h : x.val - 128 - 128 - 128 < 128 then F ⟨x.val - 128 - 128 - 128, h⟩
      else if h : x.val - 128 - 128 - 128 - 128 < 128 then F ⟨x.val - 128 - 128 - 128 - 128, h⟩
      else if h : x.val - 128 - 128 - 128 - 128 - 128 < 128 then F ⟨x.val - 128 - 128 - 128 - 128 - 128, h⟩
      else if h : x.val - 128 - 128 - 128 - 128 - 128 - 128 < 128 then F ⟨x.val - 128 - 128 - 128 - 128 - 128 - 128, h⟩
      else F ⟨x.val - 128 - 128 - 128 - 128 - 128 - 128 - 128, by omega⟩) = F ⟨x.val % 128, by omega⟩ := by
  split_ifs <;> exact congrArg F (Fin.ext (by dsimp only; omega))

/-- The column weights, as the kernel computes them from the words `v74`, `v76`, `v85` its earlier part hands over. -/
def colw (px : FVec Ideal S1024x2 .f32) (v74 : BitVec 32) (v76 : IVec S1x128 32) (v85 : IVec S1x128 1) (n : Fin 1024) (s : Fin 128) : EReal :=
  max (1 - FloatOps.absf (F := Ideal) (φ := .f32) (px (ix2 n 0) - FloatOps.sitofp (F := Ideal) .f32
      (Scalar.select (v85 (ix2 0 s)) (IntOp.addi (v76 (ix2 0 s)) v74) (v76 (ix2 0 s))))) 0
    + max (1 - FloatOps.absf (F := Ideal) (φ := .f32) (px (ix2 n 1) - FloatOps.sitofp (F := Ideal) .f32
      (Scalar.select (v85 (ix2 0 s)) (IntOp.addi (v76 (ix2 0 s)) v74) (v76 (ix2 0 s))))) 0

/-- The last part of the block: the product of the two weights against a quarter of the feature, summed over the cells. -/
theorem pay6_at (px : FVec Ideal S1024x2 .f32) (ay : FVec Ideal S896x1024 .f32) (v74 : BitVec 32) (v76 : IVec S1x128 32)
    (v85 : IVec S1x128 1) (f : FVec Ideal S1x32x32x256 .f32) (r : Fin 128) (oy : Fin 7) (ox : Fin 8) (ch : Fin 256) :
    k0_pay6 (F := Ideal) px ay v74 v76 v85 f (ix5 0 r oy ox ch)
      = ∑ k : Fin 1024, ay (ix2 ⟨r.val * 7 + oy.val, by omega⟩ k)
          * colw px v74 v76 v85 ⟨r.val * 8 + ox.val, by omega⟩ ⟨k.val % 128, by omega⟩
          * (f (ix4 0 ⟨k.val / 32, by omega⟩ ⟨k.val % 32, by omega⟩ ch) * Ideal.ofBits .f32 0x3E800000#32) := by
  pointwise [k0_pay6]
  refine Finset.sum_congr rfl fun k _ => ?_
  refine congrArg₂ (· * ·) (congrArg₂ (· * ·) ?_ ?_) rfl
  · exact congrArg (fun q => ay (ix2 q k)) (Fin.ext (by dsimp only; omega))
  · exact ladder (colw px v74 v76 v85 ⟨r.val * 8 + ox.val, by omega⟩) k

/-- The kernel's column weights are the two triangular weights of a pair of positions, added up. -/
theorem colw_eq (x : FVec Ideal S1x1024x2 .f32) (n : Fin 1024) (s : Fin 128) :
    colw (k0_pay1 x) (Scalar.select (Scalar.cmpi .eq 32#32 0#32) 1#32 32#32) k0_pay4 k0_pay5 n s
      = tent (x (ix3 0 n 0)) (s.val % 32) + tent (x (ix3 0 n 1)) (s.val % 32) := by
  unfold colw
  pointwise [k0_pay1, k0_pay4, k0_pay5]
  rw [lane_word s]
  simp only [FloatOps.sitofp, FloatOps.absf, toInt_small (s.val % 32) (by omega)]
  rfl

/-- The whole block of a grid point, read at an index: over the 1024 cells of the image, row weight times column weight
    times a quarter of the feature. -/
theorem block_at (y : FVec Ideal S1x896x2 .f32) (x : FVec Ideal S1x1024x2 .f32) (f : FVec Ideal S1x32x32x256 .f32)
    (r : Fin 128) (oy : Fin 7) (ox : Fin 8) (ch : Fin 256) :
    k0_pay6 (F := Ideal) (k0_pay1 x) (k0_pay3 (k0_pay2 y) (iota .tc S128x1024 32 [0] iota_S128x1024_d0_w32))
        (Scalar.select (Scalar.cmpi .eq 32#32 0#32) 1#32 32#32) k0_pay4 k0_pay5 f (ix5 0 r oy ox ch)
      = ∑ k : Fin 1024, (tent (y (ix3 0 ⟨r.val * 7 + oy.val, by omega⟩ 0)) (k.val / 32)
            + tent (y (ix3 0 ⟨r.val * 7 + oy.val, by omega⟩ 1)) (k.val / 32))
          * (tent (x (ix3 0 ⟨r.val * 8 + ox.val, by omega⟩ 0)) (k.val % 32)
            + tent (x (ix3 0 ⟨r.val * 8 + ox.val, by omega⟩ 1)) (k.val % 32))
          * (f (ix4 0 ⟨k.val / 32, by omega⟩ ⟨k.val % 32, by omega⟩ ch) * Ideal.ofBits .f32 0x3E800000#32) := by
  rw [pay6_at]
  refine Finset.sum_congr rfl fun k _ => ?_
  rw [pay3_at, pay2_at, colw_eq]
  have e₁ : k.val / 32 % 32 = k.val / 32 := by omega
  have e₂ : k.val % 128 % 32 = k.val % 32 := by omega
  simp only [e₁, e₂]

end Cert.KernelIdeal.Roi

end
-- ==== Proof.Position.lean ====
module

public import proofs.«01_k».proof.Proof.Gen.KernelIdeal.Frame
public import proofs.«01_k».proof.Proof.Coordinate
public import Idealize.ShloMosaic.Lib.Pointwise
public import Idealize.ShloMosaic.Lib.Pipeline.ValueKit

@[expose] public section

set_option maxRecDepth 16384

/-! The sample positions the kernel hands its blocks, read at an index off the boxes. -/

noncomputable section

open Idealize.ShloMosaic Idealize.ShloMosaic.TcCoe Idealize.SL.Sem

namespace Cert.KernelIdeal.Roi

open Cert.KernelIdeal Cert.KernelIdeal.Gen Cert.Roi

variable (m : (ℓ : Loc nD τ sig) → Buf (Elt Ideal) ℓ)

/-- The boxes as launched. -/
abbrev box (c : Dev nD) : FVec Ideal S8x128x4 .f32 := m ((c : Thread nD τ).loc main_arg1)

/-- The features as launched. -/
abbrev feat (c : Dev nD) : FVec Ideal S8x32x32x256 .f32 := m ((c : Thread nD τ).loc main_arg0)

/-- The vertical positions: image `t`, row of bins `q` (a box's seven in a row), sample `s` of the bin's two. -/
theorem v89_at (c : Dev nD) (t : Fin 8) (r : Fin 128) (oy : Fin 7) (s : Fin 2) :
    (show FVec Ideal S8x896x2 .f32 from V m c main_v89) (ix3 t ⟨r.val * 7 + oy.val, by omega⟩ s)
      = pos (box m c (ix3 t r 1)) (box m c (ix3 t r 3)) (BitVec.ofNat 32 (2 * oy.val + s.val)) := by
  entry_read
  pointwise
  have e₁ : (⟨(t.val * 128 + (r.val * 7 + oy.val) / 7) / 128, by omega⟩ : Fin 8) = t := Fin.ext (by dsimp only; omega)
  have e₂ : (⟨(t.val * 128 + (r.val * 7 + oy.val) / 7) % 128, by omega⟩ : Fin 128) = r := Fin.ext (by dsimp only; omega)
  have e₃ : (r.val * 7 + oy.val) % 7 = oy.val := by omega
  simp only [e₁, e₂, e₃]
  by_cases hs : s.val < 1
  · rw [dif_pos hs, show 2 * oy.val + s.val = 2 * oy.val by omega]; rfl
  · rw [dif_neg hs, show 2 * oy.val + s.val = 1 + 2 * oy.val by have := s.isLt; omega]; rfl

/-- The horizontal positions: image `t`, column of bins `ox` of a box (below seven: the eighth is padding), sample `s`. -/
theorem v90_at (c : Dev nD) (t : Fin 8) (r : Fin 128) (ox : Fin 7) (s : Fin 2) :
    (show FVec Ideal S8x1024x2 .f32 from V m c main_v90) (ix3 t ⟨r.val * 8 + ox.val, by omega⟩ s)
      = pos (box m c (ix3 t r 0)) (box m c (ix3 t r 2)) (BitVec.ofNat 32 (2 * ox.val + s.val)) := by
  entry_read
  pointwise
  have e₁ : (⟨(t.val * 128 + (r.val * 8 + ox.val) / 8) / 128, by omega⟩ : Fin 8) = t := Fin.ext (by dsimp only; omega)
  have e₂ : (⟨(t.val * 128 + (r.val * 8 + ox.val) / 8) % 128, by omega⟩ : Fin 128) = r := Fin.ext (by dsimp only; omega)
  have e₃ : (r.val * 8 + ox.val) % 8 = ox.val := by omega
  simp only [e₁, e₂, e₃]
  rw [dif_pos ox.isLt]
  by_cases hs : s.val < 1
  · rw [dif_pos hs, show 2 * ox.val + s.val = 2 * ox.val by omega]; rfl
  · rw [dif_neg hs, show 2 * ox.val + s.val = 1 + 2 * ox.val by have := s.isLt; omega]; rfl

end Cert.KernelIdeal.Roi

end
-- ==== Proof.KernelArray.lean ====
module

public import proofs.«01_k».proof.Proof.Gen.KernelIdeal.Value
public import proofs.«01_k».proof.Proof.Payload
public import proofs.«01_k».proof.Proof.Position
public import Idealize.ShloMosaic.Lib.Pipeline.ValueKit

@[expose] public section

set_option maxRecDepth 16384

/-! The array the kernel leaves, read at an index off the boxes and the features. -/

noncomputable section

open Idealize.ShloMosaic Idealize.ShloMosaic.TcCoe Idealize.SL.Sem
open Idealize.ShloMosaic.Pipeline (Dat)

namespace Cert.KernelIdeal.Roi

open Cert.KernelIdeal Cert.KernelIdeal.Gen Cert.Roi

variable (m : (ℓ : Loc nD τ sig) → Buf (Elt Ideal) ℓ)

/-- The row weight of a bin: the triangular weights of its two positions at a cell, added up. -/
def pairw (a b : EReal) (o : ℕ) (h : ℕ) : EReal :=
  tent (pos a b (BitVec.ofNat 32 (2 * o))) h + tent (pos a b (BitVec.ofNat 32 (2 * o + 1))) h

/-- The value the kernel computes for image `t`, box `r`, bin `(oy, ox)`, channel `ch`. -/
def cellSum (B : FVec Ideal S8x128x4 .f32) (X : FVec Ideal S8x32x32x256 .f32) (t : Fin 8) (r : Fin 128) (oy ox : Fin 7)
    (ch : Fin 256) : EReal :=
  ∑ k : Fin 1024, pairw (B (ix3 t r 1)) (B (ix3 t r 3)) oy.val (k.val / 32)
    * pairw (B (ix3 t r 0)) (B (ix3 t r 2)) ox.val (k.val % 32)
    * (X (ix4 t ⟨k.val / 32, by omega⟩ ⟨k.val % 32, by omega⟩ ch) * Ideal.ofBits .f32 0x3E800000#32)

/-- The whole result. -/
def result (c : Dev nD) : FVec Ideal S8x128x7x7x256 .f32 := fun i =>
  cellSum (box m c) (feat m c) (i 0) (i 1) (i 2) (i 3) (i 4)

/-- Every window's block at a grid point is the image of that number. -/
theorem idx : ∀ t : Fin cfg0.N, win0_0.index t = ![t.val, 0, 0] ∧ win0_1.index t = ![t.val, 0, 0]
    ∧ win0_2.index t = ![t.val, 0, 0, 0] ∧ win0_3.index t = ![t.val, 0, 0, 0, 0] :=
  (by decide +kernel : ∀ t : Fin grid0.N, _)

/-- Window 0's block at point `t` is image `t`'s vertical positions. -/
theorem iblk0_at (c : Dev nD) (t : Fin cfg0.N) (u : Fin 8) (h : u.val = t.val) (q : Fin 896) (s : Fin 2) :
    (show FVec Ideal S1x896x2 .f32 from iblk m c 0 t) (ix3 0 q s)
      = (show FVec Ideal S8x896x2 .f32 from V m c main_v89) (ix3 u q s) := by
  blk_ext [iblk, idx t]

/-- Window 1's block at point `t` is image `t`'s horizontal positions. -/
theorem iblk1_at (c : Dev nD) (t : Fin cfg0.N) (u : Fin 8) (h : u.val = t.val) (n : Fin 1024) (s : Fin 2) :
    (show FVec Ideal S1x1024x2 .f32 from iblk m c 1 t) (ix3 0 n s)
      = (show FVec Ideal S8x1024x2 .f32 from V m c main_v90) (ix3 u n s) := by
  blk_ext [iblk, idx t]

/-- Window 2's block at point `t` is image `t`'s features. -/
theorem iblk2_at (c : Dev nD) (t : Fin cfg0.N) (u : Fin 8) (h : u.val = t.val) (i j : Fin 32) (ch : Fin 256) :
    (show FVec Ideal S1x32x32x256 .f32 from iblk m c 2 t) (ix4 0 i j ch) = feat m c (ix4 u i j ch) := by
  rw [feat, ← V_main_arg0 m c]
  blk_ext [iblk, idx t]

/-- The part of window 3's block kept at every grid point: all of it but the eighth, padding column of bins. -/
theorem kept : ∀ t : Fin cfg0.N, ((cfg0.win 3).xblock (cfg0.grid.coords t)).size = ![1, 128, 7, 7, 256] :=
  (by decide +kernel : ∀ t : Fin grid0.N, ((cfg0.win 3).xblock (cfg0.grid.coords t)).size = ![1, 128, 7, 7, 256])

/-- Window 3's block at a grid point is the image of that number (alone, as the placements below use it). -/
theorem idx3 (t : Fin cfg0.N) : win0_3.index t = ![t.val, 0, 0, 0, 0] := (idx t).2.2.2

/-- Where an index of window 3's block at point `t` sits in the result array. -/
theorem emb_eq (t : Fin cfg0.N) (y : ((cfg0.win 3).xblock (cfg0.grid.coords t)).Idx) (u : Fin 8) (r : Fin 128)
    (oy ox : Fin 7) (ch : Fin 256) (hu : u.val = t.val) (h0 : (y 0 : ℕ) = 0) (h1 : (y 1 : ℕ) = r.val)
    (h2 : (y 2 : ℕ) = oy.val) (h3 : (y 3 : ℕ) = ox.val) (h4 : (y 4 : ℕ) = ch.val) :
    ((View.whole main_v91).slice (win0_3.rect t)).emb y = (ix5 u r oy ox ch : S8x128x7x7x256.Idx) := by
  have e0 : ((((View.whole main_v91).slice (win0_3.rect t)).emb y) 0 : ℕ) = t.val + (y 0 : ℕ) := by blk_simp [idx3 t]
  have e1 : ((((View.whole main_v91).slice (win0_3.rect t)).emb y) 1 : ℕ) = (y 1 : ℕ) := by blk_simp [idx3 t]
  have e2 : ((((View.whole main_v91).slice (win0_3.rect t)).emb y) 2 : ℕ) = (y 2 : ℕ) := by blk_simp [idx3 t]
  have e3 : ((((View.whole main_v91).slice (win0_3.rect t)).emb y) 3 : ℕ) = (y 3 : ℕ) := by blk_simp [idx3 t]
  have e4 : ((((View.whole main_v91).slice (win0_3.rect t)).emb y) 4 : ℕ) = (y 4 : ℕ) := by blk_simp [idx3 t]
  funext a
  fin_cases a
  · exact Fin.ext (e0.trans (by rw [h0]; exact hu.symm))
  · exact Fin.ext (e1.trans h1)
  · exact Fin.ext (e2.trans h2)
  · exact Fin.ext (e3.trans h3)
  · exact Fin.ext (e4.trans h4)

/-- The same index as one of the whole, uncut block. -/
theorem xinj_eq (t : Fin cfg0.N) (y : ((cfg0.win 3).xblock (cfg0.grid.coords t)).Idx) (r : Fin 128)
    (oy ox : Fin 7) (ch : Fin 256) (h0 : (y 0 : ℕ) = 0) (h1 : (y 1 : ℕ) = r.val)
    (h2 : (y 2 : ℕ) = oy.val) (h3 : (y 3 : ℕ) = ox.val) (h4 : (y 4 : ℕ) = ch.val) :
    (win0 3).xinj (grid0.coords t) y = (ix5 0 r oy ⟨ox.val, by omega⟩ ch : S1x128x7x8x256.Idx) := by
  funext a
  fin_cases a
  · exact Fin.ext h0
  · exact Fin.ext h1
  · exact Fin.ext h2
  · exact Fin.ext h3
  · exact Fin.ext h4

/-- What point `t` computes at an index of its block is the value of that image's box, bin and channel. -/
theorem point (c : Dev nD) (t : Fin cfg0.N) (u : Fin 8) (hu : u.val = t.val) (r : Fin 128) (oy ox : Fin 7) (ch : Fin 256) :
    k0_pay6 (F := Ideal) (k0_pay1 (iblk m c 1 t)) (k0_pay3 (k0_pay2 (iblk m c 0 t)) (iota .tc S128x1024 32 [0] iota_S128x1024_d0_w32))
        (Scalar.select (Scalar.cmpi .eq 32#32 0#32) 1#32 32#32) k0_pay4 k0_pay5 (iblk m c 2 t) (ix5 0 r oy ⟨ox.val, by omega⟩ ch)
      = cellSum (box m c) (feat m c) u r oy ox ch := by
  refine (block_at (iblk m c 0 t) (iblk m c 1 t) (iblk m c 2 t) r oy ⟨ox.val, by omega⟩ ch).trans ?_
  refine Finset.sum_congr rfl fun k _ => ?_
  refine congrArg₂ (· * ·) (congrArg₂ (· * ·) (congrArg₂ (· + ·) ?_ ?_) (congrArg₂ (· + ·) ?_ ?_)) (congrArg₂ (· * ·) ?_ rfl)
  · exact congrArg (fun p => tent p _) ((iblk0_at m c t u hu _ 0).trans (v89_at m c u r oy 0))
  · exact congrArg (fun p => tent p _) ((iblk0_at m c t u hu _ 1).trans (v89_at m c u r oy 1))
  · exact congrArg (fun p => tent p _) ((iblk1_at m c t u hu _ 0).trans (v90_at m c u r ox 0))
  · exact congrArg (fun p => tent p _) ((iblk1_at m c t u hu _ 1).trans (v90_at m c u r ox 1))
  · exact iblk2_at m c t u hu _ _ ch

/-- The result array after the run. -/
theorem final (c : Dev nD) : (dats m 0 c).arrAt 3 cfg0.N = result m c := by
  refine (dats m 0 c).arrAt_eq_of_covers 3 _ (by decide +kernel) fun t _ y => ?_
  blk_simp
  rw [after0_3]
  frame_out
  have b0 : (y 0 : ℕ) < 1 := lt_of_lt_of_eq (y 0).isLt (congrFun (kept t) 0)
  have b1 : (y 1 : ℕ) < 128 := lt_of_lt_of_eq (y 1).isLt (congrFun (kept t) 1)
  have b2 : (y 2 : ℕ) < 7 := lt_of_lt_of_eq (y 2).isLt (congrFun (kept t) 2)
  have b3 : (y 3 : ℕ) < 7 := lt_of_lt_of_eq (y 3).isLt (congrFun (kept t) 3)
  have b4 : (y 4 : ℕ) < 256 := lt_of_lt_of_eq (y 4).isLt (congrFun (kept t) 4)
  have z0 : (y 0 : ℕ) = 0 := Nat.lt_one_iff.mp b0
  have hu : t.val < 8 := t.isLt
  rw [xinj_eq t y ⟨y 1, b1⟩ ⟨y 2, b2⟩ ⟨y 3, b3⟩ ⟨y 4, b4⟩ z0 rfl rfl rfl rfl,
    emb_eq t y ⟨t.val, hu⟩ ⟨y 1, b1⟩ ⟨y 2, b2⟩ ⟨y 3, b3⟩ ⟨y 4, b4⟩ rfl z0 rfl rfl rfl rfl]
  exact point m c t ⟨t.val, hu⟩ rfl ⟨y 1, b1⟩ ⟨y 2, b2⟩ ⟨y 3, b3⟩ ⟨y 4, b4⟩

end Cert.KernelIdeal.Roi

end
-- ==== Proof.Decode.lean ====
module

public import proofs.«01_k».proof.Proof.Coordinate
public import proofs.«01_k».proof.Proof.Gen.Pre_below_inf_and_overlapping
public import Idealize.ShloMosaic.Lib.ReduceAll

@[expose] public section

set_option maxRecDepth 16384

/-! What the precondition says in real numbers: no feature is +inf and every sample lies on the grid. -/

noncomputable section

open Idealize.ShloMosaic

namespace Cert.Roi

/-- The constant 31. -/
theorem c31 : Ideal.ofBits .f32 0x41F80000#32 = ((31 : ℝ) : EReal) := by
  simp [Ideal.ofBits, Ideal.ieee]
  rw [← EReal.coe_mul]
  norm_num

/-- The constant 13. -/
theorem c13 : Ideal.ofBits .f32 0x41500000#32 = ((13 : ℝ) : EReal) := by
  simp [Ideal.ofBits, Ideal.ieee]
  rw [← EReal.coe_mul]
  norm_num

/-- The constant one half. -/
theorem chalf : Ideal.ofBits .f32 0x3F000000#32 = ((1 / 2 : ℝ) : EReal) := by
  simp [Ideal.ofBits, Ideal.ieee]
  rw [← EReal.coe_mul]
  norm_num

/-- The constant 7. -/
theorem c7 : Ideal.ofBits .f32 0x40E00000#32 = ((7 : ℝ) : EReal) := by
  simp [Ideal.ofBits, Ideal.ieee]
  rw [← EReal.coe_mul]
  norm_num

/-- The constant 2. -/
theorem c2 : Ideal.ofBits .f32 0x40000000#32 = ((2 : ℝ) : EReal) := by
  simp [Ideal.ofBits, Ideal.ieee]
  rw [← EReal.coe_mul]
  norm_num

/-- The constant 4. -/
theorem c4 : Ideal.ofBits .f32 0x40800000#32 = ((4 : ℝ) : EReal) := by
  simp [Ideal.ofBits, Ideal.ieee]
  rw [← EReal.coe_mul]
  norm_num

/-- The constant one quarter. -/
theorem cquarter : Ideal.ofBits .f32 0x3E800000#32 = ((1 / 4 : ℝ) : EReal) := by
  simp [Ideal.ofBits, Ideal.ieee]
  rw [← EReal.coe_mul]
  norm_num

/-- The pattern of positive infinity. -/
theorem ctop : Ideal.ofBits .f32 0x7F800000#32 = ⊤ := by
  simp [Ideal.ofBits, Ideal.ieee]

/-- The coercion of reals takes a maximum to the maximum. -/
theorem coe_max (x y : ℝ) : ((max x y : ℝ) : EReal) = max (x : EReal) (y : EReal) :=
  EReal.coe_strictMono.monotone.map_max

/-- The coercion of reals takes a minimum to the minimum. -/
theorem coe_min (x y : ℝ) : ((min x y : ℝ) : EReal) = min (x : EReal) (y : EReal) :=
  EReal.coe_strictMono.monotone.map_min

/-- A quotient by a real that is not zero is a product with its inverse. -/
theorem div_by_real (x : EReal) (y : ℝ) (h : y ≠ 0) : Ideal.div x (y : EReal) = x * ((y⁻¹ : ℝ) : EReal) := by
  unfold Ideal.div
  rw [if_neg (by exact_mod_cast h), ← EReal.coe_inv]

/-- A quotient of reals, the second not zero. -/
theorem div_real (x y : ℝ) (h : y ≠ 0) : Ideal.div (x : EReal) (y : EReal) = ((x / y : ℝ) : EReal) := by
  rw [div_by_real _ y h, ← EReal.coe_mul, div_eq_mul_inv]

/-- A lower edge not beyond the image, clamped, is a real fraction of the image. -/
theorem lower_edge {a : EReal} (h : a ≤ Ideal.ofBits .f32 0x41F80000#32) :
    ∃ e : ℝ, max (Ideal.div a (Ideal.ofBits .f32 0x41F80000#32)) 0 = (e : EReal) ∧ 0 ≤ e ∧ e ≤ 1 := by
  rw [c31] at h ⊢
  induction a with
  | bot =>
    refine ⟨0, ?_, le_refl _, zero_le_one⟩
    rw [div_by_real _ 31 (by norm_num), EReal.bot_mul_coe_of_pos (by norm_num)]
    exact max_eq_right bot_le
  | top => exact absurd h (by simp)
  | coe a =>
    have h' : a ≤ 31 := by exact_mod_cast h
    refine ⟨max (a / 31) 0, ?_, le_max_right _ _, max_le (by linarith) zero_le_one⟩
    rw [div_real a 31 (by norm_num), coe_max, EReal.coe_zero]

/-- An upper edge not before the image, clamped, is a real fraction of the image. -/
theorem upper_edge {b : EReal} (h : 0 ≤ b) :
    ∃ e : ℝ, min (Ideal.div b (Ideal.ofBits .f32 0x41F80000#32)) 1 = (e : EReal) ∧ 0 ≤ e ∧ e ≤ 1 := by
  rw [c31]
  induction b with
  | bot => exact absurd h (by simp)
  | top =>
    refine ⟨1, ?_, zero_le_one, le_refl _⟩
    rw [div_by_real _ 31 (by norm_num), EReal.top_mul_coe_of_pos (by norm_num)]
    exact min_eq_right le_top
  | coe b =>
    have h' : 0 ≤ b := by exact_mod_cast h
    refine ⟨min (b / 31) 1, ?_, le_min (by linarith) zero_le_one, min_le_right _ _⟩
    rw [div_real b 31 (by norm_num), coe_min, EReal.coe_one]

/-- Every sample of a box that meets the image lies on the grid. -/
theorem pos_real {a b : EReal} (ha : a ≤ Ideal.ofBits .f32 0x41F80000#32) (hb : 0 ≤ b) (i : ℕ) (hi : i < 14) :
    ∃ p : ℝ, pos a b (BitVec.ofNat 32 i) = (p : EReal) ∧ 0 ≤ p ∧ p ≤ 31 := by
  obtain ⟨e, he, he0, he1⟩ := lower_edge ha
  obtain ⟨f, hf, hf0, hf1⟩ := upper_edge hb
  have hin : inset a b = (((f - e) / 28 : ℝ) : EReal) := by
    unfold inset
    rw [he, hf, chalf, c7, c2, ← EReal.coe_sub, div_real _ 7 (by norm_num), ← EReal.coe_mul, div_real _ 2 (by norm_num)]
    congr 1
    ring
  have hw : FloatOps.sitofp (F := Ideal) .f32 (BitVec.ofNat 32 i) = ((i : ℝ) : EReal) := by
    show (((BitVec.ofNat 32 i).toInt : ℝ) : EReal) = _
    rw [toInt_small i (by omega), Int.cast_natCast]
  have hi' : (i : ℝ) / 13 ≤ 1 := by
    rw [div_le_one (by norm_num)]
    exact_mod_cast Nat.le_of_lt_succ hi
  have hi0 : 0 ≤ (i : ℝ) / 13 := by positivity
  have hA0 : 0 ≤ e + (f - e) / 28 := by linarith
  have hA1 : e + (f - e) / 28 ≤ 1 := by linarith
  have hB0 : 0 ≤ f - (f - e) / 28 := by linarith
  have hB1 : f - (f - e) / 28 ≤ 1 := by linarith
  refine ⟨31 * ((1 - (i : ℝ) / 13) * (e + (f - e) / 28) + (i : ℝ) / 13 * (f - (f - e) / 28)), ?_, ?_, ?_⟩
  · unfold pos
    rw [hin, he, hf, hw, c31, c13]
    simp only [← EReal.coe_sub, ← EReal.coe_add, ← EReal.coe_mul]
    rw [div_real _ 13 (by norm_num)]
    simp only [← EReal.coe_add, ← EReal.coe_mul]
    congr 1
    ring
  · have := mul_nonneg (sub_nonneg.mpr hi') hA0
    have := mul_nonneg hi0 hB0
    linarith
  · have := mul_le_mul_of_nonneg_left hA1 (sub_nonneg.mpr hi')
    have := mul_le_mul_of_nonneg_left hB1 hi0
    linarith

section Pre

open Cert.Pre_below_inf_and_overlapping Cert.Pre_below_inf_and_overlapping.Gen

variable {X : FVec Ideal S8x32x32x256 .f32} {B : FVec Ideal S8x128x4 .f32}

/-- A comparison that came out true states the comparison. -/
theorem of_bit {p : Prop} [Decidable p] (h : BitVec.ofBool (decide p) = 1#1) : p := by
  by_contra n
  rw [decide_eq_false n] at h
  exact absurd h (by decide)

instance : Subsingleton S_.Idx := ⟨fun a b => funext fun i => i.elim0⟩

/-- The three parts of the precondition, at single elements. -/
theorem pre_parts (h : Cert.Pre_below_inf_and_overlapping.fn (F := Ideal) X B = fun _ => 1#1) :
    (∀ i, X i ≠ ⊤) ∧ (∀ t r (k : Fin 2), B (ix3 t r ⟨k.val, by omega⟩) ≤ Ideal.ofBits .f32 0x41F80000#32)
      ∧ ∀ t r (k : Fin 2), 0 ≤ B (ix3 t r ⟨2 + k.val, by omega⟩) := by
  unfold Cert.Pre_below_inf_and_overlapping.fn at h
  dsimp only at h
  have split (i) := IntOp.andi_eq_one.1 (congrFun h i)
  have boxes := IntOp.andi_eq_one.1 (split (ix4 0 0 0 0)).2
  have low := Host.reduce_andi_all _ _ _ _ _ boxes.1
  have high := Host.reduce_andi_all _ _ _ _ _ boxes.2
  refine ⟨fun i => ?_, fun t r k => ?_, fun t r k => ?_⟩
  · have below : X i < Ideal.ofBits .f32 0x7F800000#32 := of_bit (split i).1
    rw [ctop] at below
    exact below.ne
  · have := low (ix3 t r k)
    pointwise at this
    exact of_bit this
  · have := high (ix3 t r k)
    pointwise at this
    exact of_bit this

/-- Under the precondition no feature is +inf and every sample position is a real on the grid. -/
theorem real_data (h : Cert.Pre_below_inf_and_overlapping.fn (F := Ideal) X B = fun _ => 1#1) :
    ∃ py px : Fin 8 → Fin 128 → Fin 14 → ℝ, (∀ i, X i ≠ ⊤)
      ∧ (∀ t r i, pos (B (ix3 t r 1)) (B (ix3 t r 3)) (BitVec.ofNat 32 i.val) = (py t r i : EReal) ∧ 0 ≤ py t r i ∧ py t r i ≤ 31)
      ∧ ∀ t r i, pos (B (ix3 t r 0)) (B (ix3 t r 2)) (BitVec.ofNat 32 i.val) = (px t r i : EReal) ∧ 0 ≤ px t r i ∧ px t r i ≤ 31 := by
  obtain ⟨hX, hlow, hhigh⟩ := pre_parts h
  choose py hy using fun t r (i : Fin 14) => pos_real (hlow t r 1) (hhigh t r 1) i.val i.isLt
  choose px hx using fun t r (i : Fin 14) => pos_real (hlow t r 0) (hhigh t r 0) i.val i.isLt
  exact ⟨py, px, hX, hy, hx⟩

end Pre

end Cert.Roi

end
-- ==== Proof.Equation.lean ====
module

public import proofs.«01_k».proof.Proof.KernelArray
public import proofs.«01_k».proof.Proof.Decode
public import Mathlib.Algebra.BigOperators.Fin

@[expose] public section

set_option maxRecDepth 16384

/-! The kernel's sum over the cells of the image is the mean of four bilinear samples. -/

noncomputable section

open Idealize.ShloMosaic Idealize.ShloMosaic.TcCoe Idealize.SL.Sem
open Cert.Roi

namespace Cert.KernelIdeal.Roi

open Cert.KernelIdeal Cert.KernelIdeal.Gen

/-- The kernel's triangular weight at a real position is the real triangular weight. -/
theorem tent_real (p : ℝ) (h : ℕ) : tent (p : EReal) h = (tentR p h : EReal) := by
  unfold tent tentR
  rw [abs_eq_max_neg, ← EReal.coe_sub, ← EReal.coe_neg, ← coe_max, ← EReal.coe_one, ← EReal.coe_sub, ← EReal.coe_zero, ← coe_max]

/-- A sum over the 1024 cells is a sum over rows of sums over columns. -/
theorem sum_cells (f : ℕ → ℕ → EReal) : ∑ k : Fin 1024, f (k.val / 32) (k.val % 32) = ∑ h : Fin 32, ∑ w : Fin 32, f h.val w.val := by
  rw [← Fintype.sum_prod_type' (f := fun (h w : Fin 32) => f h.val w.val)]
  exact Fintype.sum_equiv (finProdFinEquiv (m := 32) (n := 32)).symm _ _ fun k => rfl

variable {B : FVec Ideal S8x128x4 .f32} {X : FVec Ideal S8x32x32x256 .f32} {py px : Fin 8 → Fin 128 → Fin 14 → ℝ}

/-- The kernel's weight of a grid line in a bin, at real sample positions. -/
theorem pairw_real {a b : EReal} {p : Fin 14 → ℝ} (hp : ∀ i, pos a b (BitVec.ofNat 32 i.val) = (p i : EReal) ∧ 0 ≤ p i ∧ p i ≤ 31)
    (o : Fin 7) (h : ℕ) : pairw a b o.val h = ((tentR (p (sampleNo o 0)) h + tentR (p (sampleNo o 1)) h : ℝ) : EReal) := by
  have h0 : pos a b (BitVec.ofNat 32 (2 * o.val)) = (p (sampleNo o 0) : EReal) := by
    rw [← (hp (sampleNo o 0)).1]
    exact congrArg (fun n => pos a b (BitVec.ofNat 32 n)) (Nat.mul_comm 2 o.val)
  have h1 : pos a b (BitVec.ofNat 32 (2 * o.val + 1)) = (p (sampleNo o 1) : EReal) := by
    rw [← (hp (sampleNo o 1)).1]
    exact congrArg (fun n => pos a b (BitVec.ofNat 32 (n + 1))) (Nat.mul_comm 2 o.val)
  unfold pairw
  rw [h0, h1, tent_real, tent_real, EReal.coe_add]

/-- The kernel's result, at features below +inf and sample positions on the grid, is the mean of the bin's bilinear samples. -/
theorem cellSum_real (hg : ∀ i, X i ≠ ⊤)
    (hy : ∀ t r i, pos (B (ix3 t r 1)) (B (ix3 t r 3)) (BitVec.ofNat 32 i.val) = (py t r i : EReal) ∧ 0 ≤ py t r i ∧ py t r i ≤ 31)
    (hx : ∀ t r i, pos (B (ix3 t r 0)) (B (ix3 t r 2)) (BitVec.ofNat 32 i.val) = (px t r i : EReal) ∧ 0 ≤ px t r i ∧ px t r i ≤ 31)
    (t : Fin 8) (r : Fin 128) (oy ox : Fin 7) (ch : Fin 256) :
    cellSum B X t r oy ox ch = bin (py t r) (px t r) (fun y x => X (ix4 t y x ch)) oy ox := by
  unfold cellSum
  simp only [pairw_real (hy t r), pairw_real (hx t r), cquarter, ← EReal.coe_mul]
  have e := mean_bilin _ _ _ _ (hy t r (sampleNo oy 0)).2 (hy t r (sampleNo oy 1)).2 (hx t r (sampleNo ox 0)).2
    (hx t r (sampleNo ox 1)).2 (fun y x => X (ix4 t y x ch)) fun _ _ => hg _
  rw [bin, Fin.sum_univ_two, Fin.sum_univ_two, Fin.sum_univ_two, ← e]
  refine (Eq.trans (Finset.sum_congr rfl fun k _ => ?_) (sum_cells fun y x => if hyx : y < 32 ∧ x < 32 then
      (((tentR (py t r (sampleNo oy 0)) y + tentR (py t r (sampleNo oy 1)) y)
        * (tentR (px t r (sampleNo ox 0)) x + tentR (px t r (sampleNo ox 1)) x) : ℝ) : EReal)
        * (X (ix4 t ⟨y, hyx.1⟩ ⟨x, hyx.2⟩ ch) * ((1 / 4 : ℝ) : EReal)) else 0)).trans ?_
  · have hk := k.isLt
    rw [dif_pos ⟨by omega, by omega⟩]
  · exact Finset.sum_congr rfl fun y _ => Finset.sum_congr rfl fun x _ => by rw [dif_pos ⟨y.isLt, x.isLt⟩]

/-- The kernel's whole result at features below +inf and sample positions on the grid. -/
theorem result_real (m : (ℓ : Loc nD τ sig) → Buf (Elt Ideal) ℓ) (c : Dev nD)
    (hg : ∀ i, feat m c i ≠ ⊤)
    (hy : ∀ t r i, pos (box m c (ix3 t r 1)) (box m c (ix3 t r 3)) (BitVec.ofNat 32 i.val) = (py t r i : EReal) ∧ 0 ≤ py t r i ∧ py t r i ≤ 31)
    (hx : ∀ t r i, pos (box m c (ix3 t r 0)) (box m c (ix3 t r 2)) (BitVec.ofNat 32 i.val) = (px t r i : EReal) ∧ 0 ≤ px t r i ∧ px t r i ≤ 31) :
    result m c = fun i => bin (py (i 0) (i 1)) (px (i 0) (i 1)) (fun y x => feat m c (ix4 (i 0) y x (i 4))) (i 2) (i 3) :=
  funext fun i => cellSum_real hg hy hx (i 0) (i 1) (i 2) (i 3) (i 4)

end Cert.KernelIdeal.Roi

end
-- ==== Proof.Word.lean ====
module

public import Idealize.ShloMosaic.Lib.Pointwise
public import proofs.«01_k».proof.Proof.Tent

@[expose] public section

set_option maxRecDepth 16384

/-! The integer words by which a sample position names its two neighbouring grid lines. -/

noncomputable section

open Idealize.ShloMosaic

namespace Cert.Roi

/-- On the grid, the lower neighbour of a position is its floor and the upper one the next grid line, or the last. -/
theorem lo_hi_of_floor {p : ℝ} (k : Fin 32) (h : ⌊p⌋ = (k.val : ℤ)) :
    lo p = k ∧ (hi p).val = min 31 (k.val + 1) := by
  have hk := k.isLt
  refine ⟨Fin.ext ?_, ?_⟩
  · simp only [lo, h]
    omega
  · simp only [hi, h]
    omega

/-- A position on the grid has a floor among the grid lines. -/
theorem floor_mem {p : ℝ} (hp : 0 ≤ p ∧ p ≤ 31) : ∃ k : Fin 32, ⌊p⌋ = (k.val : ℤ) := by
  have h0 : 0 ≤ ⌊p⌋ := Int.floor_nonneg.mpr hp.1
  have h1 : ⌊p⌋ < 32 := Int.floor_lt.mpr (by push_cast; linarith [hp.2])
  exact ⟨⟨⌊p⌋.toNat, by omega⟩, by simp only; omega⟩

/-- The floor of a position on the grid, converted to a word, is the word of its grid line. -/
theorem floor_word {p : ℝ} (k : Fin 32) (h : ⌊p⌋ = (k.val : ℤ)) :
    (FloatOps.fptosi (F := Ideal) (φ := .f32) 32 (Ideal.liftRound Int.floor (p : EReal)) : BitVec 32) = BitVec.ofNat 32 k.val := by
  rw [Ideal.liftRound_coe, h]
  show BitVec.ofInt 32 (max _ (min _ (if (0 : ℝ) ≤ ((k.val : ℤ) : ℝ) then ⌊((k.val : ℤ) : ℝ)⌋ else ⌈((k.val : ℤ) : ℝ)⌉))) = _
  have hk := k.isLt
  rw [Int.floor_intCast, Int.ceil_intCast, ite_self, min_eq_right (by norm_num <;> omega), max_eq_right (by norm_num <;> omega)]
  exact BitVec.ofInt_natCast 32 k.val

/-- Clipping the word of a grid line to the grid leaves it. -/
theorem clip_lo : ∀ k : Fin 32, IntOp.minsi 31#32 (IntOp.maxsi 0#32 (BitVec.ofNat 32 k.val)) = BitVec.ofNat 32 k.val := by
  decide

/-- Clipping the word after a grid line's gives the next grid line, or the last. -/
theorem clip_hi : ∀ k : Fin 32, IntOp.minsi 31#32 (IntOp.maxsi 0#32 (IntOp.addi (BitVec.ofNat 32 k.val) 1#32))
    = BitVec.ofNat 32 (min 31 (k.val + 1)) := by
  decide

/-- The clipped word of a position's floor names its lower neighbour. -/
theorem lo_word {p : ℝ} (hp : 0 ≤ p ∧ p ≤ 31) :
    IntOp.minsi 31#32 (IntOp.maxsi 0#32 (FloatOps.fptosi (F := Ideal) (φ := .f32) 32 (Ideal.liftRound Int.floor (p : EReal))))
      = BitVec.ofNat 32 (lo p).val := by
  obtain ⟨k, h⟩ := floor_mem hp
  rw [floor_word k h, clip_lo, (lo_hi_of_floor k h).1]

/-- The clipped word after a position's floor names its upper neighbour. -/
theorem hi_word {p : ℝ} (hp : 0 ≤ p ∧ p ≤ 31) :
    IntOp.minsi 31#32 (IntOp.maxsi 0#32
        (IntOp.addi (FloatOps.fptosi (F := Ideal) (φ := .f32) 32 (Ideal.liftRound Int.floor (p : EReal))) 1#32))
      = BitVec.ofNat 32 (hi p).val := by
  obtain ⟨k, h⟩ := floor_mem hp
  rw [floor_word k h, clip_hi, (lo_hi_of_floor k h).2]

/-- Reading a grid line's word as an index, negative words counted from the end, gives the grid line. -/
theorem index_line : ∀ k : Fin 32, min (BitVec.toInt (Scalar.select (IntOp.cmpi .slt (BitVec.ofNat 32 k.val) 0#32)
    (IntOp.addi (BitVec.ofNat 32 k.val) 32#32) (BitVec.ofNat 32 k.val))).toNat 31 = k.val := by
  decide

/-- Reading an image number's word as an index, negative words counted from the end, gives the image number. -/
theorem index_image (m : ℕ) (h : m < 8) : min (BitVec.toInt (Scalar.select (IntOp.cmpi .slt (BitVec.ofNat 32 m) 0#32)
    (IntOp.addi (BitVec.ofNat 32 m) 8#32) (BitVec.ofNat 32 m))).toNat 7 = m := by
  revert m
  decide

end Cert.Roi

end
-- ==== Proof.Reference.lean ====
module

public import proofs.«01_k».proof.Proof.Gen.ReferenceIdeal.Run
public import proofs.«01_k».proof.Proof.Decode
public import proofs.«01_k».proof.Proof.Word

@[expose] public section

set_option maxRecDepth 16384

/-! The reference's result, entry by entry: the mean of four bilinear samples. -/

noncomputable section

open Idealize.ShloMosaic Idealize.ShloMosaic.TcCoe Idealize.SL.Sem
open Cert.Roi

namespace Cert.ReferenceIdeal.Roi

open Cert.ReferenceIdeal Cert.ReferenceIdeal.Gen Cert.ReferenceIdeal.Value

/-- The features read at three index words per sample: the image, the row and the column they name. -/
theorem gather_at (X : FVec Ideal S8x32x32x256 .f32) (w : IVec S1024x14x14x3 32) (n : Fin 1024) (i j : Fin 14) (ch : Fin 256) :
    Host.gather gather_S8x32x32x256_S1024x14x14x3_S1024x14x14x256_3_012_n_n_012_3_111256 X w (ix4 n i j ch)
      = X (ix4 ⟨min (w (ix4 n i j 0)).toInt.toNat 7, by omega⟩ ⟨min (w (ix4 n i j 1)).toInt.toNat 31, by omega⟩
          ⟨min (w (ix4 n i j 2)).toInt.toNat 31, by omega⟩ ch) := by
  have at_word (k : Fin 3) : GatherDims.siIdx
      gather_S8x32x32x256_S1024x14x14x3_S1024x14x14x256_3_012_n_n_012_3_111256 (ix4 n i j ch) k = ix4 n i j k := by
    funext b
    match b with
    | ⟨0, _⟩ => rfl
    | ⟨1, _⟩ => rfl
    | ⟨2, _⟩ => rfl
    | ⟨3, _⟩ => rfl
  unfold Host.gather
  refine congrArg X (funext fun a => Fin.ext ?_)
  match a with
  | ⟨0, _⟩ =>
    show min (w (GatherDims.siIdx gather_S8x32x32x256_S1024x14x14x3_S1024x14x14x256_3_012_n_n_012_3_111256
      (ix4 n i j ch) (0 : Fin 3))).toInt.toNat 7 + 0 + 0 = _
    rw [at_word]
    rfl
  | ⟨1, _⟩ =>
    show min (w (GatherDims.siIdx gather_S8x32x32x256_S1024x14x14x3_S1024x14x14x256_3_012_n_n_012_3_111256
      (ix4 n i j ch) (1 : Fin 3))).toInt.toNat 31 + 0 + 0 = _
    rw [at_word]
    rfl
  | ⟨2, _⟩ =>
    show min (w (GatherDims.siIdx gather_S8x32x32x256_S1024x14x14x3_S1024x14x14x256_3_012_n_n_012_3_111256
      (ix4 n i j ch) (2 : Fin 3))).toInt.toNat 31 + 0 + 0 = _
    rw [at_word]
    rfl
  | ⟨3, _⟩ =>
    show _ = ch.val
    exact Nat.zero_add _

/-- Summing out the two axes of sampling points leaves a sum over the two-by-two points of each bin. -/
theorem reduce_at (Y : FVec Ideal S1024x7x2x7x2x256 .f32) (z : EReal) (n : Fin 1024) (i j : Fin 7) (ch : Fin 256) :
    Ideal.hostReduceAdd reducesTo_S1024x7x2x7x2x256_S1024x7x7x256_d2_4 Y z (ix4 n i j ch)
      = z + ∑ s : Fin 2, ∑ u : Fin 2, Y (ix6 n i s j u ch) := by
  unfold Ideal.hostReduceAdd
  rw [← Fintype.sum_prod_type' (f := fun s u => Y (ix6 n i s j u ch))]
  refine congrArg (z + ·) (Finset.sum_filter_eq_sum_of_fiber _ (fun k : Fin 2 × Fin 2 => ix6 n i k.1 j k.2 ch) ?_ ?_ Y)
  · intro k l e
    exact Prod.ext (congrFun e 2) (congrFun e 4)
  · intro q
    rw [eq_ix6 q]
    constructor
    · intro e
      refine ⟨(q 2, q 4), ?_⟩
      have e0 : q 0 = n := congrFun e 0
      have e1 : q 1 = i := congrFun e 1
      have e2 : q 3 = j := congrFun e 2
      have e3 : q 5 = ch := congrFun e 3
      simp only [e0, e1, e2, e3]
    · rintro ⟨k, e⟩
      rw [← e]
      funext b
      match b with
      | ⟨0, _⟩ => rfl
      | ⟨1, _⟩ => rfl
      | ⟨2, _⟩ => rfl
      | ⟨3, _⟩ => rfl

variable (V0 : Valuation τ sig (Elt Ideal))

/-- The reference's features. -/
abbrev feat : FVec Ideal S8x32x32x256 .f32 := V0 (Proc.devRef .tc main_arg0)

/-- The reference's boxes. -/
abbrev box : FVec Ideal S8x128x4 .f32 := V0 (Proc.devRef .tc main_arg1)

/-- The image of a flattened box. -/
abbrev image (n : Fin 1024) : Fin 8 := ⟨n.val / 128, by omega⟩

/-- The number of a flattened box in its image. -/
abbrev slot (n : Fin 1024) : Fin 128 := ⟨n.val % 128, by omega⟩

/-- The reference's vertical sample positions. -/
theorem y_at (n : Fin 1024) (i : Fin 14) : (res_main_v61 V0 : FVec Ideal S1024x14 .f32) (ix2 n i)
    = pos (box V0 (ix3 (image n) (slot n) 1)) (box V0 (ix3 (image n) (slot n) 3)) (BitVec.ofNat 32 i.val) := by
  pointwise [res_main_v61, res_main_v30, res_main_v22, res_main_v19, res_main_v11, res_main_v3, res_main_v46]
  rfl

/-- The reference's horizontal sample positions. -/
theorem x_at (n : Fin 1024) (i : Fin 14) : (res_main_v76 V0 : FVec Ideal S1024x14 .f32) (ix2 n i)
    = pos (box V0 (ix3 (image n) (slot n) 0)) (box V0 (ix3 (image n) (slot n) 2)) (BitVec.ofNat 32 i.val) := by
  pointwise [res_main_v76, res_main_v35, res_main_v25, res_main_v15, res_main_v7, res_main_v3, res_main_v19, res_main_v22, res_main_v30, res_main_v46]
  rfl

/-- The image number's word of a flattened box. -/
theorem image_word (n : Fin 1024) : (res_main_v98 V0 : IVec S1024x1x1 32) (ix3 n 0 0) = BitVec.ofNat 32 (image n).val := by
  pointwise [res_main_v98]

section Real

variable {py px : Fin 1024 → Fin 14 → ℝ}
  (hy : ∀ n i, (res_main_v61 V0 : FVec Ideal S1024x14 .f32) (ix2 n i) = (py n i : EReal) ∧ 0 ≤ py n i ∧ py n i ≤ 31)
  (hx : ∀ n i, (res_main_v76 V0 : FVec Ideal S1024x14 .f32) (ix2 n i) = (px n i : EReal) ∧ 0 ≤ px n i ∧ px n i ≤ 31)

include hy in
/-- The word of the grid line above a sample. -/
theorem y_lo (n : Fin 1024) (i : Fin 14) :
    (res_main_v99 V0 : IVec S1024x14x1 32) (ix3 n i 0) = BitVec.ofNat 32 (lo (py n i)).val := by
  pointwise [res_main_v99, res_main_v77]
  rw [(hy n i).1]
  exact lo_word (hy n i).2

include hy in
/-- The word of the grid line below a sample. -/
theorem y_hi (n : Fin 1024) (i : Fin 14) :
    (res_main_v100 V0 : IVec S1024x14x1 32) (ix3 n i 0) = BitVec.ofNat 32 (hi (py n i)).val := by
  pointwise [res_main_v100, res_main_v77]
  rw [(hy n i).1]
  exact hi_word (hy n i).2

include hx in
/-- The word of the grid line left of a sample. -/
theorem x_lo (n : Fin 1024) (i : Fin 14) :
    (res_main_v101 V0 : IVec S1024x1x14 32) (ix3 n 0 i) = BitVec.ofNat 32 (lo (px n i)).val := by
  pointwise [res_main_v101, res_main_v78]
  rw [(hx n i).1]
  exact lo_word (hx n i).2

include hx in
/-- The word of the grid line right of a sample. -/
theorem x_hi (n : Fin 1024) (i : Fin 14) :
    (res_main_v102 V0 : IVec S1024x1x14 32) (ix3 n 0 i) = BitVec.ofNat 32 (hi (px n i)).val := by
  pointwise [res_main_v102, res_main_v78]
  rw [(hx n i).1]
  exact hi_word (hx n i).2

include hy in
/-- The grid coordinate of the line above a sample. -/
theorem y_frac (n : Fin 1024) (i : Fin 14) :
    (res_main_v77 V0 : FVec Ideal S1024x14 .f32) (ix2 n i) = ((⌊py n i⌋ : ℝ) : EReal) := by
  pointwise [res_main_v77]
  rw [(hy n i).1, Ideal.liftRound_coe]

include hx in
/-- A sample's horizontal fraction. -/
theorem x_frac (n : Fin 1024) (i : Fin 14) :
    (res_main_v82 V0 : FVec Ideal S1024x1x14x1 .f32) (ix4 n 0 i 0) = ((px n i - ⌊px n i⌋ : ℝ) : EReal) := by
  pointwise [res_main_v82, res_main_v78]
  rw [(hx n i).1, Ideal.liftRound_coe, EReal.coe_sub]

include hy hx in
/-- The feature at a sample's upper left. -/
theorem lo_lo (n : Fin 1024) (i j : Fin 14) (ch : Fin 256) :
    (res_main_v125 V0 : FVec Ideal S1024x14x14x256 .f32) (ix4 n i j ch)
      = feat V0 (ix4 (image n) (lo (py n i)) (lo (px n j)) ch) := by
  simp only [res_main_v125]
  rw [gather_at]
  pointwise
  simp only [image_word V0 n, y_lo V0 hy n i, x_lo V0 hx n j, index_line, index_image (n.val / 128) (by omega)]

include hy hx in
/-- The feature at a sample's lower left. -/
theorem hi_lo (n : Fin 1024) (i j : Fin 14) (ch : Fin 256) :
    (res_main_v171 V0 : FVec Ideal S1024x14x14x256 .f32) (ix4 n i j ch)
      = feat V0 (ix4 (image n) (hi (py n i)) (lo (px n j)) ch) := by
  simp only [res_main_v171]
  rw [gather_at]
  pointwise
  simp only [image_word V0 n, y_hi V0 hy n i, x_lo V0 hx n j, index_line, index_image (n.val / 128) (by omega)]

include hy hx in
/-- The sample between the two upper neighbours. -/
theorem upper (n : Fin 1024) (i j : Fin 14) (ch : Fin 256) :
    (res_main_v198 V0 : FVec Ideal S1024x14x14x256 .f32) (ix4 n i j ch)
      = feat V0 (ix4 (image n) (lo (py n i)) (lo (px n j)) ch)
        + (feat V0 (ix4 (image n) (lo (py n i)) (hi (px n j)) ch) - feat V0 (ix4 (image n) (lo (py n i)) (lo (px n j)) ch))
          * ((px n j - ⌊px n j⌋ : ℝ) : EReal) := by
  pointwise [res_main_v198]
  simp only [lo_lo V0 hy hx, x_frac V0 hx, gather_at]
  pointwise
  simp only [image_word V0 n, y_lo V0 hy n i, x_hi V0 hx n j, index_line, index_image (n.val / 128) (by omega)]

/-- The flattened number of a box. -/
abbrev flat (t : Fin 8) (r : Fin 128) : Fin 1024 := ⟨t.val * 128 + r.val, by omega⟩

/-- A flattened box's image, read back. -/
theorem image_flat (t : Fin 8) (r : Fin 128) : image (flat t r) = t :=
  Fin.ext (by show (t.val * 128 + r.val) / 128 = t.val; omega)

/-- A flattened box's number in its image, read back. -/
theorem slot_flat (t : Fin 8) (r : Fin 128) : slot (flat t r) = r :=
  Fin.ext (by show (t.val * 128 + r.val) % 128 = r.val; omega)

include hy hx in
/-- The reference's result: the mean over a bin's four points of the bilinear samples of the features. -/
theorem result_at (t : Fin 8) (r : Fin 128) (i j : Fin 7) (ch : Fin 256) :
    (show FVec Ideal S8x128x7x7x256 .f32 from val5 V0 (Proc.devRef .tc main_v211)) (ix5 t r i j ch)
      = Ideal.div (0 + ∑ s : Fin 2, ∑ u : Fin 2,
          bilin (py (flat t r) (sampleNo i s)) (px (flat t r) (sampleNo j u)) fun h w => feat V0 (ix4 t h w ch))
        (Ideal.ofBits .f32 0x40800000#32) := by
  rw [val5_main_v211]
  pointwise
  simp only [reduce_at]
  pointwise
  simp only [upper V0 hy hx, hi_lo V0 hy hx, x_frac V0 hx, y_frac V0 hy, (hy _ _).1, gather_at]
  pointwise
  simp only [image_word V0 _, y_hi V0 hy _ _, x_hi V0 hx _ _, index_line]
  have e : (t.val * 128 + r.val) / 128 = t.val := by omega
  simp only [e, image_flat, index_image t.val t.isLt, Fin.eta]
  refine congrArg (Ideal.div · _) (Finset.sum_congr rfl fun s _ => Finset.sum_congr rfl fun u _ => ?_)
  simp only [bilin, lerp, EReal.coe_sub]

end Real

section Data

variable {py px : Fin 8 → Fin 128 → Fin 14 → ℝ}
  (hy : ∀ t r i, pos (box V0 (ix3 t r 1)) (box V0 (ix3 t r 3)) (BitVec.ofNat 32 i.val) = (py t r i : EReal) ∧ 0 ≤ py t r i ∧ py t r i ≤ 31)
  (hx : ∀ t r i, pos (box V0 (ix3 t r 0)) (box V0 (ix3 t r 2)) (BitVec.ofNat 32 i.val) = (px t r i : EReal) ∧ 0 ≤ px t r i ∧ px t r i ≤ 31)

include hy hx

/-- One entry of the reference's result at sample positions on the grid. -/
theorem entry_real (t : Fin 8) (r : Fin 128) (oy ox : Fin 7) (ch : Fin 256) :
    (show FVec Ideal S8x128x7x7x256 .f32 from val5 V0 (Proc.devRef .tc main_v211)) (ix5 t r oy ox ch)
      = bin (py t r) (px t r) (fun y x => feat V0 (ix4 t y x ch)) oy ox := by
  refine (result_at V0 (py := fun n => py (image n) (slot n)) (px := fun n => px (image n) (slot n))
    (fun n k => ⟨(y_at V0 n k).trans (hy _ _ k).1, (hy _ _ k).2⟩) (fun n k => ⟨(x_at V0 n k).trans (hx _ _ k).1, (hx _ _ k).2⟩)
    t r oy ox ch).trans ?_
  rw [image_flat, slot_flat, zero_add, c4, div_by_real _ 4 (by norm_num), bin, one_div]

/-- The reference's whole result at sample positions on the grid. -/
theorem result_real :
    (show FVec Ideal S8x128x7x7x256 .f32 from val5 V0 (Proc.devRef .tc main_v211))
      = fun i => bin (py (i 0) (i 1)) (px (i 0) (i 1)) (fun y x => feat V0 (ix4 (i 0) y x (i 4))) (i 2) (i 3) :=
  funext fun i => (congrArg _ (eq_ix5 i)).trans (entry_real V0 hy hx (i 0) (i 1) (i 2) (i 3) (i 4))

end Data

end Cert.ReferenceIdeal.Roi

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_below_inf_and_overlapping
public import proofs.«01_k».proof.Proof.Gen.KernelIdeal.Value
public import proofs.«01_k».proof.Proof.Gen.ReferenceIdeal.Run
public import proofs.«01_k».proof.Proof.Equation
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments alone and ends with every semaphore at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel and the reference end with the same result: the mean of each bin's four bilinear
    samples of the features. -/
theorem algebraic : Cert.algebraic_KernelIdeal_ReferenceIdeal_pre_below_inf_and_overlapping := by
  intro m ρ m' ρ' hpre hagree
  refine ⟨fun c => Cert.KernelIdeal.Roi.result m c, ?_, ?_⟩
  · exact (θ_run Cert.KernelIdeal.defs _ _).mono
      (fun _ h c => ⟨(h c).1.trans (Cert.KernelIdeal.Roi.final m c), (h c).2⟩)
      (Cert.KernelIdeal.Value.run_blocks (F := Ideal) m ρ)
  · refine (θ_run Cert.ReferenceIdeal.defs _ _).mono
      (fun _ h c => ⟨(h c).1.trans ((Cert.ReferenceIdeal.Value.val5_main_v211 _).symm.trans ?_), (h c).2⟩)
      (Cert.ReferenceIdeal.Value.run (F := Ideal) m' ρ')
    obtain ⟨py, px, hg, hy, hx⟩ := Cert.Roi.real_data (hpre c)
    have e0 : Cert.ReferenceIdeal.Roi.feat (StableHlo.launchContents m' c) = Cert.KernelIdeal.Roi.feat m c := (hagree c).1
    have e1 : Cert.ReferenceIdeal.Roi.box (StableHlo.launchContents m' c) = Cert.KernelIdeal.Roi.box m c := (hagree c).2
    refine (Cert.ReferenceIdeal.Roi.result_real (StableHlo.launchContents m' c) (py := py) (px := px) ?_ ?_).trans ?_
    · rw [e1]
      exact hy
    · rw [e1]
      exact hx
    · rw [e0]
      exact (Cert.KernelIdeal.Roi.result_real m c hg hy hx).symm

/-- Everything claimed: the frames of the kernel as printed and as idealized and of the reference, that the idealization
    preserves the kernel's text, and the equality of the two results. -/
theorem claim : Cert.Claim :=
  ⟨Cert.Kernel.Gen.facts, Cert.KernelIdeal.Gen.facts, Cert.ReferenceIdeal.Gen.facts, Cert.Pre_below_inf_and_overlapping.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, algebraic⟩

end Cert.Proof

end
